-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S64x1024x32 : Shape := ⟨3, ![64, 1024, 32]⟩
abbrev S64x128x8 : Shape := ⟨3, ![64, 128, 8]⟩
abbrev S64x8 : Shape := ⟨2, ![64, 8]⟩
abbrev S64x1024x4 : Shape := ⟨3, ![64, 1024, 4]⟩
abbrev S64x128x4 : Shape := ⟨3, ![64, 128, 4]⟩
abbrev S11x4 : Shape := ⟨2, ![11, 4]⟩
abbrev S12x4 : Shape := ⟨2, ![12, 4]⟩
abbrev S31x6 : Shape := ⟨2, ![31, 6]⟩
abbrev S7x4 : Shape := ⟨2, ![7, 4]⟩
abbrev S18 : Shape := ⟨1, ![18]⟩
abbrev S_ : Shape := ⟨0, ![]⟩

class Facts : Prop where
  bcast_S_S64x8 : S_.BroadcastsInDim S64x8 (![] : Fin 0 → Fin S64x8.rank)
  reducesTo_S64x8_S_d0_1 : S64x8.ReducesTo [0, 1] S_
  h_S_ : 0 < S_.numel
  bcast_S_S64x1024x4 : S_.BroadcastsInDim S64x1024x4 (![] : Fin 0 → Fin S64x1024x4.rank)
  reducesTo_S64x1024x4_S_d0_1_2 : S64x1024x4.ReducesTo [0, 1, 2] S_
  bcast_S_S64x128x4 : S_.BroadcastsInDim S64x128x4 (![] : Fin 0 → Fin S64x128x4.rank)
  reducesTo_S64x128x4_S_d0_1_2 : S64x128x4.ReducesTo [0, 1, 2] S_

variable [Facts]

def fn_part1 {F : FTy → Type} [FloatOps F] (main_arg4 : IVec S64x128x4 32) (main_v12 : IVec S_ 1) (main_v14 : IVec S64x128x4 1) (main_v15 : IVec S64x128x4 32) : IVec S_ 1 :=
  let main_v16 : IVec S64x128x4 1 := cmpi .slt main_arg4 main_v15
  let main_v17 : IVec S64x128x4 1 := andi main_v14 main_v16
  let main_c_7 : IVec S_ 1 := constantI S_ 1 1#1
  let main_v18 : IVec S_ 1 := (fun x v => Host.reduce IntOp.andi x v reducesTo_S64x128x4_S_d0_1_2 h_S_) main_v17 main_c_7
  let main_v19 : IVec S_ 1 := andi main_v12 main_v18
  main_v19

def fn {F : FTy → Type} [FloatOps F] (main_arg0 : FVec F S64x1024x32 .f32) (main_arg1 : FVec F S64x128x8 .f32) (main_arg2 : IVec S64x8 32) (main_arg3 : IVec S64x1024x4 32) (main_arg4 : IVec S64x128x4 32) (main_arg5 : FVec F S11x4 .f32) (main_arg6 : FVec F S12x4 .f32) (main_arg7 : FVec F S31x6 .f32) (main_arg8 : FVec F S7x4 .f32) (main_arg9 : FVec F S18 .f32) (main_arg10 : FVec F S18 .f32) : IVec S_ 1 :=
  let main_c : IVec S_ 32 := constantI S_ 32 0#32
  let main_v0 : IVec S64x8 32 := broadcastInDim S64x8 ![] bcast_S_S64x8 main_c
  let main_v1 : IVec S64x8 1 := cmpi .sge main_arg2 main_v0
  let main_c_0 : IVec S_ 32 := constantI S_ 32 32#32
  let main_v2 : IVec S64x8 32 := broadcastInDim S64x8 ![] bcast_S_S64x8 main_c_0
  let main_v3 : IVec S64x8 1 := cmpi .slt main_arg2 main_v2
  let main_v4 : IVec S64x8 1 := andi main_v1 main_v3
  let main_c_1 : IVec S_ 1 := constantI S_ 1 1#1
  let main_v5 : IVec S_ 1 := (fun x v => Host.reduce IntOp.andi x v reducesTo_S64x8_S_d0_1 h_S_) main_v4 main_c_1
  let main_c_2 : IVec S_ 32 := constantI S_ 32 0#32
  let main_v6 : IVec S64x1024x4 32 := broadcastInDim S64x1024x4 ![] bcast_S_S64x1024x4 main_c_2
  let main_v7 : IVec S64x1024x4 1 := cmpi .sge main_arg3 main_v6
  let main_c_3 : IVec S_ 32 := constantI S_ 32 7#32
  let main_v8 : IVec S64x1024x4 32 := broadcastInDim S64x1024x4 ![] bcast_S_S64x1024x4 main_c_3
  let main_v9 : IVec S64x1024x4 1 := cmpi .slt main_arg3 main_v8
  let main_v10 : IVec S64x1024x4 1 := andi main_v7 main_v9
  let main_c_4 : IVec S_ 1 := constantI S_ 1 1#1
  let main_v11 : IVec S_ 1 := (fun x v => Host.reduce IntOp.andi x v reducesTo_S64x1024x4_S_d0_1_2 h_S_) main_v10 main_c_4
  let main_v12 : IVec S_ 1 := andi main_v5 main_v11
  let main_c_5 : IVec S_ 32 := constantI S_ 32 0#32
  let main_v13 : IVec S64x128x4 32 := broadcastInDim S64x128x4 ![] bcast_S_S64x128x4 main_c_5
  let main_v14 : IVec S64x128x4 1 := cmpi .sge main_arg4 main_v13
  let main_c_6 : IVec S_ 32 := constantI S_ 32 7#32
  let main_v15 : IVec S64x128x4 32 := broadcastInDim S64x128x4 ![] bcast_S_S64x128x4 main_c_6
  fn_part1 (F := F) main_arg4 main_v12 main_v14 main_v15
-- ==== Kernel.lean ====
abbrev S64x1024x32 : Shape := ⟨3, ![64, 1024, 32]⟩
abbrev S64x128x8 : Shape := ⟨3, ![64, 128, 8]⟩
abbrev S64x8 : Shape := ⟨2, ![64, 8]⟩
abbrev S64x1024x4 : Shape := ⟨3, ![64, 1024, 4]⟩
abbrev S64x128x4 : Shape := ⟨3, ![64, 128, 4]⟩
abbrev S11x4 : Shape := ⟨2, ![11, 4]⟩
abbrev S12x4 : Shape := ⟨2, ![12, 4]⟩
abbrev S31x6 : Shape := ⟨2, ![31, 6]⟩
abbrev S7x4 : Shape := ⟨2, ![7, 4]⟩
abbrev S18 : Shape := ⟨1, ![18]⟩
abbrev S64x8x32 : Shape := ⟨3, ![64, 8, 32]⟩
abbrev S576 : Shape := ⟨1, ![576]⟩
abbrev S_ : Shape := ⟨0, ![]⟩
abbrev S32 : Shape := ⟨1, ![32]⟩
abbrev S32x1 : Shape := ⟨2, ![32, 1]⟩
abbrev S1x18 : Shape := ⟨2, ![1, 18]⟩
abbrev S32x18 : Shape := ⟨2, ![32, 18]⟩
abbrev S1x576 : Shape := ⟨2, ![1, 576]⟩
abbrev S32x576 : Shape := ⟨2, ![32, 576]⟩
abbrev S7x18 : Shape := ⟨2, ![7, 18]⟩
abbrev S1x7x1x18 : Shape := ⟨4, ![1, 7, 1, 18]⟩
abbrev S1x7x32x18 : Shape := ⟨4, ![1, 7, 32, 18]⟩
abbrev S7x576 : Shape := ⟨2, ![7, 576]⟩
abbrev S7x6 : Shape := ⟨2, ![7, 6]⟩
abbrev S3x576 : Shape := ⟨2, ![3, 576]⟩
abbrev S64x576 : Shape := ⟨2, ![64, 576]⟩
abbrev S64x1x1 : Shape := ⟨3, ![64, 1, 1]⟩
abbrev S64x1x8 : Shape := ⟨3, ![64, 1, 8]⟩
abbrev S64x1024x576 : Shape := ⟨3, ![64, 1024, 576]⟩
abbrev S64x128x576 : Shape := ⟨3, ![64, 128, 576]⟩
abbrev S64x128x32x18 : Shape := ⟨4, ![64, 128, 32, 18]⟩
abbrev S4x1024x32 : Shape := ⟨3, ![4, 1024, 32]⟩
abbrev S4x8x32 : Shape := ⟨3, ![4, 8, 32]⟩
abbrev S1x1024x32 : Shape := ⟨3, ![1, 1024, 32]⟩
abbrev S1024x32 : Shape := ⟨2, ![1024, 32]⟩
abbrev S1024x128 : Shape := ⟨2, ![1024, 128]⟩
abbrev S128x128 : Shape := ⟨2, ![128, 128]⟩
abbrev S64x2x1x128 : Shape := ⟨4, ![64, 2, 1, 128]⟩
abbrev S64x1x1x128 : Shape := ⟨4, ![64, 1, 1, 128]⟩
abbrev S64x1x128 : Shape := ⟨3, ![64, 1, 128]⟩
abbrev S32x2x2x128 : Shape := ⟨4, ![32, 2, 2, 128]⟩
abbrev S32x1x2x128 : Shape := ⟨4, ![32, 1, 2, 128]⟩
abbrev S32x2x128 : Shape := ⟨3, ![32, 2, 128]⟩
abbrev S32x1x1 : Shape := ⟨3, ![32, 1, 1]⟩
abbrev S16x2x4x128 : Shape := ⟨4, ![16, 2, 4, 128]⟩
abbrev S16x1x4x128 : Shape := ⟨4, ![16, 1, 4, 128]⟩
abbrev S16x4x128 : Shape := ⟨3, ![16, 4, 128]⟩
abbrev S16x1x1 : Shape := ⟨3, ![16, 1, 1]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S8x1x1 : Shape := ⟨3, ![8, 1, 1]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S4x1x1 : Shape := ⟨3, ![4, 1, 1]⟩
abbrev S2x2x32x128 : Shape := ⟨4, ![2, 2, 32, 128]⟩
abbrev S2x1x32x128 : Shape := ⟨4, ![2, 1, 32, 128]⟩
abbrev S2x32x128 : Shape := ⟨3, ![2, 32, 128]⟩
abbrev S2x1x1 : Shape := ⟨3, ![2, 1, 1]⟩
abbrev S1x2x64x128 : Shape := ⟨4, ![1, 2, 64, 128]⟩
abbrev S1x1x64x128 : Shape := ⟨4, ![1, 1, 64, 128]⟩
abbrev S1x64x128 : Shape := ⟨3, ![1, 64, 128]⟩
abbrev S1x128 : Shape := ⟨2, ![1, 128]⟩
abbrev S1x32 : Shape := ⟨2, ![1, 32]⟩
abbrev S1x1x32 : Shape := ⟨3, ![1, 1, 32]⟩
abbrev S6x32 : Shape := ⟨2, ![6, 32]⟩
abbrev S1x6x32 : Shape := ⟨3, ![1, 6, 32]⟩
abbrev S1x8x32 : Shape := ⟨3, ![1, 8, 32]⟩
abbrev S1x1024x4 : Shape := ⟨3, ![1, 1024, 4]⟩
abbrev S1x128x4 : Shape := ⟨3, ![1, 128, 4]⟩
abbrev S1x128x8 : Shape := ⟨3, ![1, 128, 8]⟩
abbrev S1x1x8 : Shape := ⟨3, ![1, 1, 8]⟩
abbrev S1x1x1 : Shape := ⟨3, ![1, 1, 1]⟩
abbrev S1x1024x576 : Shape := ⟨3, ![1, 1024, 576]⟩
abbrev S1x128x576 : Shape := ⟨3, ![1, 128, 576]⟩
abbrev S1024x4 : Shape := ⟨2, ![1024, 4]⟩
abbrev S1024x1 : Shape := ⟨2, ![1024, 1]⟩
abbrev S1024x7 : Shape := ⟨2, ![1024, 7]⟩
abbrev S1024x28 : Shape := ⟨2, ![1024, 28]⟩
abbrev S1024x3 : Shape := ⟨2, ![1024, 3]⟩
abbrev S1024x64 : Shape := ⟨2, ![1024, 64]⟩
abbrev S1024x576 : Shape := ⟨2, ![1024, 576]⟩
abbrev S128x4 : Shape := ⟨2, ![128, 4]⟩
abbrev S128x1 : Shape := ⟨2, ![128, 1]⟩
abbrev S128x7 : Shape := ⟨2, ![128, 7]⟩
abbrev S128x28 : Shape := ⟨2, ![128, 28]⟩
abbrev S128x32 : Shape := ⟨2, ![128, 32]⟩
abbrev S128x64 : Shape := ⟨2, ![128, 64]⟩
abbrev S128x576 : Shape := ⟨2, ![128, 576]⟩
abbrev S1x8 : Shape := ⟨2, ![1, 8]⟩
abbrev S1x1 : Shape := ⟨2, ![1, 1]⟩
abbrev S128x8 : Shape := ⟨2, ![128, 8]⟩

abbrev nBuf : Space → Nat
  | .hbm => 86
  | .vmem => 29
  | .smem => 0
  | _ => 0

abbrev bufTy : (tb : Table) → Fin (tcTables nBuf tb) → BufTy
  | .hbm, ⟨0, _⟩ => ⟨S64x1024x32, .f32⟩
  | .hbm, ⟨1, _⟩ => ⟨S64x128x8, .f32⟩
  | .hbm, ⟨2, _⟩ => ⟨S64x8, .i32⟩
  | .hbm, ⟨3, _⟩ => ⟨S64x1024x4, .i32⟩
  | .hbm, ⟨4, _⟩ => ⟨S64x128x4, .i32⟩
  | .hbm, ⟨5, _⟩ => ⟨S11x4, .f32⟩
  | .hbm, ⟨6, _⟩ => ⟨S12x4, .f32⟩
  | .hbm, ⟨7, _⟩ => ⟨S31x6, .f32⟩
  | .hbm, ⟨8, _⟩ => ⟨S7x4, .f32⟩
  | .hbm, ⟨9, _⟩ => ⟨S18, .f32⟩
  | .hbm, ⟨10, _⟩ => ⟨S18, .f32⟩
  | .hbm, ⟨11, _⟩ => ⟨S64x8x32, .f32⟩
  | .hbm, ⟨12, _⟩ => ⟨S576, .i32⟩
  | .hbm, ⟨13, _⟩ => ⟨S_, .i32⟩
  | .hbm, ⟨14, _⟩ => ⟨S_, .i32⟩
  | .hbm, ⟨15, _⟩ => ⟨S576, .i32⟩
  | .hbm, ⟨16, _⟩ => ⟨S576, .i32⟩
  | .hbm, ⟨17, _⟩ => ⟨S576, .i32⟩
  | .hbm, ⟨18, _⟩ => ⟨S_, .i32⟩
  | .hbm, ⟨19, _⟩ => ⟨S576, .i32⟩
  | .hbm, ⟨20, _⟩ => ⟨S576, .i1⟩
  | .hbm, ⟨21, _⟩ => ⟨S576, .i32⟩
  | .hbm, ⟨22, _⟩ => ⟨S576, .i32⟩
  | .hbm, ⟨23, _⟩ => ⟨S_, .i32⟩
  | .hbm, ⟨24, _⟩ => ⟨S576, .i32⟩
  | .hbm, ⟨25, _⟩ => ⟨S576, .i1⟩
  | .hbm, ⟨26, _⟩ => ⟨S576, .i1⟩
  | .hbm, ⟨27, _⟩ => ⟨S_, .i32⟩
  | .hbm, ⟨28, _⟩ => ⟨S576, .i32⟩
  | .hbm, ⟨29, _⟩ => ⟨S576, .i32⟩
  | .hbm, ⟨30, _⟩ => ⟨S576, .i32⟩
  | .hbm, ⟨31, _⟩ => ⟨S32, .i32⟩
  | .hbm, ⟨32, _⟩ => ⟨S32x1, .i32⟩
  | .hbm, ⟨33, _⟩ => ⟨S1x18, .f32⟩
  | .hbm, ⟨34, _⟩ => ⟨S32x18, .f32⟩
  | .hbm, ⟨35, _⟩ => ⟨S576, .f32⟩
  | .hbm, ⟨36, _⟩ => ⟨S1x576, .f32⟩
  | .hbm, ⟨37, _⟩ => ⟨S1x576, .i32⟩
  | .hbm, ⟨38, _⟩ => ⟨S32x576, .i32⟩
  | .hbm, ⟨39, _⟩ => ⟨S32x576, .i32⟩
  | .hbm, ⟨40, _⟩ => ⟨S32x576, .i1⟩
  | .hbm, ⟨41, _⟩ => ⟨S_, .f32⟩
  | .hbm, ⟨42, _⟩ => ⟨S_, .f32⟩
  | .hbm, ⟨43, _⟩ => ⟨S32x576, .f32⟩
  | .hbm, ⟨44, _⟩ => ⟨S32x576, .f32⟩
  | .hbm, ⟨45, _⟩ => ⟨S32x576, .f32⟩
  | .hbm, ⟨46, _⟩ => ⟨S7x4, .f32⟩
  | .hbm, ⟨47, _⟩ => ⟨S_, .i32⟩
  | .hbm, ⟨48, _⟩ => ⟨S_, .f32⟩
  | .hbm, ⟨49, _⟩ => ⟨S7x18, .f32⟩
  | .hbm, ⟨50, _⟩ => ⟨S1x7x1x18, .f32⟩
  | .hbm, ⟨51, _⟩ => ⟨S1x7x32x18, .f32⟩
  | .hbm, ⟨52, _⟩ => ⟨S7x576, .f32⟩
  | .hbm, ⟨53, _⟩ => ⟨S7x4, .f32⟩
  | .hbm, ⟨54, _⟩ => ⟨S_, .i32⟩
  | .hbm, ⟨55, _⟩ => ⟨S_, .f32⟩
  | .hbm, ⟨56, _⟩ => ⟨S7x18, .f32⟩
  | .hbm, ⟨57, _⟩ => ⟨S1x7x1x18, .f32⟩
  | .hbm, ⟨58, _⟩ => ⟨S1x7x32x18, .f32⟩
  | .hbm, ⟨59, _⟩ => ⟨S7x576, .f32⟩
  | .hbm, ⟨60, _⟩ => ⟨S7x6, .f32⟩
  | .hbm, ⟨61, _⟩ => ⟨S_, .i32⟩
  | .hbm, ⟨62, _⟩ => ⟨S_, .f32⟩
  | .hbm, ⟨63, _⟩ => ⟨S7x18, .f32⟩
  | .hbm, ⟨64, _⟩ => ⟨S1x7x1x18, .f32⟩
  | .hbm, ⟨65, _⟩ => ⟨S1x7x32x18, .f32⟩
  | .hbm, ⟨66, _⟩ => ⟨S7x576, .f32⟩
  | .hbm, ⟨67, _⟩ => ⟨S_, .i32⟩
  | .hbm, ⟨68, _⟩ => ⟨S_, .f32⟩
  | .hbm, ⟨69, _⟩ => ⟨S7x18, .f32⟩
  | .hbm, ⟨70, _⟩ => ⟨S1x7x1x18, .f32⟩
  | .hbm, ⟨71, _⟩ => ⟨S1x7x32x18, .f32⟩
  | .hbm, ⟨72, _⟩ => ⟨S7x576, .f32⟩
  | .hbm, ⟨73, _⟩ => ⟨S1x18, .f32⟩
  | .hbm, ⟨74, _⟩ => ⟨S32x18, .f32⟩
  | .hbm, ⟨75, _⟩ => ⟨S576, .f32⟩
  | .hbm, ⟨76, _⟩ => ⟨S1x576, .f32⟩
  | .hbm, ⟨77, _⟩ => ⟨S_, .f32⟩
  | .hbm, ⟨78, _⟩ => ⟨S3x576, .f32⟩
  | .hbm, ⟨79, _⟩ => ⟨S64x576, .f32⟩
  | .hbm, ⟨80, _⟩ => ⟨S64x1x1, .i32⟩
  | .hbm, ⟨81, _⟩ => ⟨S64x1x8, .i32⟩
  | .hbm, ⟨82, _⟩ => ⟨S64x1024x576, .f32⟩
  | .hbm, ⟨83, _⟩ => ⟨S64x128x576, .f32⟩
  | .hbm, ⟨84, _⟩ => ⟨S64x128x8, .f32⟩
  | .hbm, ⟨85, _⟩ => ⟨S64x128x32x18, .f32⟩
  | .local _ .vmem, ⟨0, _⟩ => ⟨S4x1024x32, .f32⟩
  | .local _ .vmem, ⟨1, _⟩ => ⟨S4x1024x32, .f32⟩
  | .local _ .vmem, ⟨2, _⟩ => ⟨S4x8x32, .f32⟩
  | .local _ .vmem, ⟨3, _⟩ => ⟨S4x8x32, .f32⟩
  | .local _ .vmem, ⟨4, _⟩ => ⟨S1x1024x32, .f32⟩
  | .local _ .vmem, ⟨5, _⟩ => ⟨S1x1024x32, .f32⟩
  | .local _ .vmem, ⟨6, _⟩ => ⟨S1x8x32, .f32⟩
  | .local _ .vmem, ⟨7, _⟩ => ⟨S1x8x32, .f32⟩
  | .local _ .vmem, ⟨8, _⟩ => ⟨S1x1024x4, .i32⟩
  | .local _ .vmem, ⟨9, _⟩ => ⟨S1x1024x4, .i32⟩
  | .local _ .vmem, ⟨10, _⟩ => ⟨S1x128x4, .i32⟩
  | .local _ .vmem, ⟨11, _⟩ => ⟨S1x128x4, .i32⟩
  | .local _ .vmem, ⟨12, _⟩ => ⟨S1x128x8, .f32⟩
  | .local _ .vmem, ⟨13, _⟩ => ⟨S1x128x8, .f32⟩
  | .local _ .vmem, ⟨14, _⟩ => ⟨S1x1x8, .i32⟩
  | .local _ .vmem, ⟨15, _⟩ => ⟨S1x1x8, .i32⟩
  | .local _ .vmem, ⟨16, _⟩ => ⟨S1x1x1, .i32⟩
  | .local _ .vmem, ⟨17, _⟩ => ⟨S1x1x1, .i32⟩
  | .local _ .vmem, ⟨18, _⟩ => ⟨S64x576, .f32⟩
  | .local _ .vmem, ⟨19, _⟩ => ⟨S11x4, .f32⟩
  | .local _ .vmem, ⟨20, _⟩ => ⟨S12x4, .f32⟩
  | .local _ .vmem, ⟨21, _⟩ => ⟨S31x6, .f32⟩
  | .local _ .vmem, ⟨22, _⟩ => ⟨S7x4, .f32⟩
  | .local _ .vmem, ⟨23, _⟩ => ⟨S1x1024x576, .f32⟩
  | .local _ .vmem, ⟨24, _⟩ => ⟨S1x1024x576, .f32⟩
  | .local _ .vmem, ⟨25, _⟩ => ⟨S1x128x576, .f32⟩
  | .local _ .vmem, ⟨26, _⟩ => ⟨S1x128x576, .f32⟩
  | .local _ .vmem, ⟨27, _⟩ => ⟨S1x128x8, .f32⟩
  | .local _ .vmem, ⟨28, _⟩ => ⟨S1x128x8, .f32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_c : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_0 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst : Ref sig .tc := ⟨.hbm, 41, rfl⟩
abbrev main_call0_call1_v0 : Ref sig .tc := ⟨.hbm, 42, rfl⟩
abbrev main_call0_call1_v1 : Ref sig .tc := ⟨.hbm, 43, rfl⟩
abbrev main_call0_call1_v2 : Ref sig .tc := ⟨.hbm, 44, rfl⟩
abbrev main_call0_v13 : Ref sig .tc := ⟨.hbm, 45, rfl⟩
abbrev main_call0_v14 : Ref sig .tc := ⟨.hbm, 46, rfl⟩
abbrev main_call0_c_0 : Ref sig .tc := ⟨.hbm, 47, rfl⟩
abbrev main_call0_call2_v0 : Ref sig .tc := ⟨.hbm, 48, rfl⟩
abbrev main_call0_v15 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_c_1 : Ref sig .tc := ⟨.hbm, 54, rfl⟩
abbrev main_call0_call3_v0 : Ref sig .tc := ⟨.hbm, 55, rfl⟩
abbrev main_call0_v20 : Ref sig .tc := ⟨.hbm, 56, rfl⟩
abbrev main_call0_v21 : Ref sig .tc := ⟨.hbm, 57, rfl⟩
abbrev main_call0_v22 : Ref sig .tc := ⟨.hbm, 58, rfl⟩
abbrev main_call0_v23 : Ref sig .tc := ⟨.hbm, 59, rfl⟩
abbrev main_call0_v24 : Ref sig .tc := ⟨.hbm, 60, rfl⟩
abbrev main_call0_c_2 : Ref sig .tc := ⟨.hbm, 61, rfl⟩
abbrev main_call0_call4_v0 : Ref sig .tc := ⟨.hbm, 62, rfl⟩
abbrev main_call0_v25 : Ref sig .tc := ⟨.hbm, 63, rfl⟩
abbrev main_call0_v26 : Ref sig .tc := ⟨.hbm, 64, rfl⟩
abbrev main_call0_v27 : Ref sig .tc := ⟨.hbm, 65, rfl⟩
abbrev main_call0_v28 : Ref sig .tc := ⟨.hbm, 66, rfl⟩
abbrev main_call0_c_3 : Ref sig .tc := ⟨.hbm, 67, rfl⟩
abbrev main_call0_call5_v0 : Ref sig .tc := ⟨.hbm, 68, rfl⟩
abbrev main_call0_v29 : Ref sig .tc := ⟨.hbm, 69, rfl⟩
abbrev main_call0_v30 : Ref sig .tc := ⟨.hbm, 70, rfl⟩
abbrev main_call0_v31 : Ref sig .tc := ⟨.hbm, 71, rfl⟩
abbrev main_call0_v32 : Ref sig .tc := ⟨.hbm, 72, rfl⟩
abbrev main_call0_v33 : Ref sig .tc := ⟨.hbm, 73, rfl⟩
abbrev main_call0_v34 : Ref sig .tc := ⟨.hbm, 74, rfl⟩
abbrev main_call0_v35 : Ref sig .tc := ⟨.hbm, 75, rfl⟩
abbrev main_call0_v36 : Ref sig .tc := ⟨.hbm, 76, rfl⟩
abbrev main_call0_cst_4 : Ref sig .tc := ⟨.hbm, 77, rfl⟩
abbrev main_call0_v37 : Ref sig .tc := ⟨.hbm, 78, rfl⟩
abbrev main_call0_v38 : Ref sig .tc := ⟨.hbm, 79, rfl⟩
abbrev main_call0_v39 : Ref sig .tc := ⟨.hbm, 80, rfl⟩
abbrev main_call0_v40 : Ref sig .tc := ⟨.hbm, 81, rfl⟩
abbrev main_v0_0 : Ref sig .tc := ⟨.hbm, 82, rfl⟩
abbrev main_call0_v41_1 : Ref sig .tc := ⟨.hbm, 83, rfl⟩
abbrev main_v0_2 : Ref sig .tc := ⟨.hbm, 84, rfl⟩
abbrev main_v0_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_stg13_1 : Ref sig .tc := ⟨.vmem, 26, rfl⟩
abbrev cc1_stg14_0 : Ref sig .tc := ⟨.vmem, 27, rfl⟩
abbrev cc1_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem12_1 : DmaSem sig := 24
abbrev cc1_sem13_0 : DmaSem sig := 25
abbrev cc1_sem13_1 : DmaSem sig := 26
abbrev cc1_sem14_0 : DmaSem sig := 27
abbrev cc1_sem14_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![64, 1], ![false, false]⟩

def k1_cond1 (i : grid1.Coords) : BitVec 1 :=
  let arg1 : BitVec 32 := BitVec.ofNat 32 (i 1).val
  let c0_i32_26 : BitVec 32 := 0#32
  let v63 : BitVec 1 := Scalar.cmpi .eq arg1 c0_i32_26
  let v64 : BitVec 32 := Scalar.extui v63
  let c0_i32_27 : BitVec 32 := 0#32
  let v65 : BitVec 1 := Scalar.cmpi .ne v64 c0_i32_27
  v65

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x4 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x8 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 1 → Memref sig .tc .vmem S64x576 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S11x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S12x4 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S31x6 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S7x4 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x1024x576 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x128x576 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S1x128x8 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]
-- ==== ReferenceIdeal.lean ====
abbrev S64x1024x32 : Shape := ⟨3, ![64, 1024, 32]⟩
abbrev S64x128x8 : Shape := ⟨3, ![64, 128, 8]⟩
abbrev S64x8 : Shape := ⟨2, ![64, 8]⟩
abbrev S64x1024x4 : Shape := ⟨3, ![64, 1024, 4]⟩
abbrev S64x128x4 : Shape := ⟨3, ![64, 128, 4]⟩
abbrev S11x4 : Shape := ⟨2, ![11, 4]⟩
abbrev S12x4 : Shape := ⟨2, ![12, 4]⟩
abbrev S31x6 : Shape := ⟨2, ![31, 6]⟩
abbrev S7x4 : Shape := ⟨2, ![7, 4]⟩
abbrev S18 : Shape := ⟨1, ![18]⟩
abbrev S64x1024x1 : Shape := ⟨3, ![64, 1024, 1]⟩
abbrev S64x1024 : Shape := ⟨2, ![64, 1024]⟩
abbrev S64x1 : Shape := ⟨2, ![64, 1]⟩
abbrev S64x1x32 : Shape := ⟨3, ![64, 1, 32]⟩
abbrev S_ : Shape := ⟨0, ![]⟩
abbrev S64x32 : Shape := ⟨2, ![64, 32]⟩
abbrev S64x8x1 : Shape := ⟨3, ![64, 8, 1]⟩
abbrev S1 : Shape := ⟨1, ![1]⟩
abbrev S1x1x1 : Shape := ⟨3, ![1, 1, 1]⟩
abbrev S64x1x8 : Shape := ⟨3, ![64, 1, 8]⟩
abbrev S64x1024x6 : Shape := ⟨3, ![64, 1024, 6]⟩
abbrev S64x1024x18 : Shape := ⟨3, ![64, 1024, 18]⟩
abbrev S64x128x1 : Shape := ⟨3, ![64, 128, 1]⟩
abbrev S64x128 : Shape := ⟨2, ![64, 128]⟩
abbrev S64x128x6 : Shape := ⟨3, ![64, 128, 6]⟩
abbrev S64x128x18 : Shape := ⟨3, ![64, 128, 18]⟩
abbrev S64x1024x1x18 : Shape := ⟨4, ![64, 1024, 1, 18]⟩
abbrev S64x128x1x18 : Shape := ⟨4, ![64, 128, 1, 18]⟩
abbrev S64x128x32x18 : Shape := ⟨4, ![64, 128, 32, 18]⟩
abbrev S64x1024x32x1 : Shape := ⟨4, ![64, 1024, 32, 1]⟩
abbrev S1x1x1x18 : Shape := ⟨4, ![1, 1, 1, 18]⟩
abbrev S64x1024x32x18 : Shape := ⟨4, ![64, 1024, 32, 18]⟩
abbrev S64x1024x576 : Shape := ⟨3, ![64, 1024, 576]⟩

abbrev nBuf : Space → Nat
  | .hbm => 226
  | .vmem => 0
  | .smem => 0
  | _ => 0

abbrev hbmTy0_0 (i : Nat) : BufTy := match i % 128 with
  | 0 => ⟨S64x1024x32, .f32⟩
  | 1 => ⟨S64x128x8, .f32⟩
  | 2 => ⟨S64x8, .i32⟩
  | 3 => ⟨S64x1024x4, .i32⟩
  | 4 => ⟨S64x128x4, .i32⟩
  | 5 => ⟨S11x4, .f32⟩
  | 6 => ⟨S12x4, .f32⟩
  | 7 => ⟨S31x6, .f32⟩
  | 8 => ⟨S7x4, .f32⟩
  | 9 => ⟨S18, .f32⟩
  | 10 => ⟨S18, .f32⟩
  | 11 => ⟨S64x1024x1, .i32⟩
  | 12 => ⟨S64x1024, .i32⟩
  | 13 => ⟨S64x1, .i32⟩
  | 14 => ⟨S64x1024x32, .f32⟩
  | 15 => ⟨S64x1x32, .f32⟩
  | 16 => ⟨S_, .f32⟩
  | 17 => ⟨S64x1x32, .f32⟩
  | 18 => ⟨S64x1x32, .f32⟩
  | 19 => ⟨S64x1x32, .f32⟩
  | 20 => ⟨S_, .f32⟩
  | 21 => ⟨S64x1x32, .f32⟩
  | 22 => ⟨S64x1x32, .f32⟩
  | 23 => ⟨S64x1x32, .f32⟩
  | 24 => ⟨S64x1x32, .f32⟩
  | 25 => ⟨S_, .f32⟩
  | 26 => ⟨S64x1x32, .f32⟩
  | 27 => ⟨S64x1x32, .f32⟩
  | 28 => ⟨S64x1x32, .f32⟩
  | 29 => ⟨S_, .f32⟩
  | 30 => ⟨S64x1x32, .f32⟩
  | 31 => ⟨S64x1x32, .f32⟩
  | 32 => ⟨S64x1x32, .f32⟩
  | 33 => ⟨S64x1x32, .f32⟩
  | 34 => ⟨S_, .f32⟩
  | 35 => ⟨S64x1x32, .f32⟩
  | 36 => ⟨S64x1x32, .f32⟩
  | 37 => ⟨S64x1x32, .f32⟩
  | 38 => ⟨S_, .f32⟩
  | 39 => ⟨S64x1x32, .f32⟩
  | 40 => ⟨S64x1x32, .f32⟩
  | 41 => ⟨S64x1x32, .f32⟩
  | 42 => ⟨S64x1x32, .f32⟩
  | 43 => ⟨S_, .f32⟩
  | 44 => ⟨S64x1x32, .f32⟩
  | 45 => ⟨S64x1x32, .f32⟩
  | 46 => ⟨S64x1024x32, .f32⟩
  | 47 => ⟨S64x1024x32, .f32⟩
  | 48 => ⟨S64x1024x32, .f32⟩
  | 49 => ⟨S64x1024x32, .f32⟩
  | 50 => ⟨S64x32, .f32⟩
  | 51 => ⟨S_, .i32⟩
  | 52 => ⟨S64x8, .i32⟩
  | 53 => ⟨S64x8, .i1⟩
  | 54 => ⟨S_, .i32⟩
  | 55 => ⟨S64x8, .i32⟩
  | 56 => ⟨S64x8, .i32⟩
  | 57 => ⟨S64x8, .i32⟩
  | 58 => ⟨S64x8x1, .i32⟩
  | 59 => ⟨S1, .i32⟩
  | 60 => ⟨S_, .i32⟩
  | 61 => ⟨S64x8x1, .i32⟩
  | 62 => ⟨S64x8x1, .i1⟩
  | 63 => ⟨S1x1x1, .i32⟩
  | 64 => ⟨S64x8x1, .i32⟩
  | 65 => ⟨S64x8x1, .i1⟩
  | 66 => ⟨S64x8x1, .i1⟩
  | 67 => ⟨S_, .i1⟩
  | 68 => ⟨S64x8, .i1⟩
  | 69 => ⟨S64x8, .f32⟩
  | 70 => ⟨S_, .f32⟩
  | 71 => ⟨S64x8, .f32⟩
  | 72 => ⟨S64x8, .f32⟩
  | 73 => ⟨S64x32, .f32⟩
  | 74 => ⟨S_, .i32⟩
  | 75 => ⟨S64x8, .i32⟩
  | 76 => ⟨S64x8, .i1⟩
  | 77 => ⟨S_, .i32⟩
  | 78 => ⟨S64x8, .i32⟩
  | 79 => ⟨S64x8, .i32⟩
  | 80 => ⟨S64x8, .i32⟩
  | 81 => ⟨S64x8x1, .i32⟩
  | 82 => ⟨S1, .i32⟩
  | 83 => ⟨S_, .i32⟩
  | 84 => ⟨S64x8x1, .i32⟩
  | 85 => ⟨S64x8x1, .i1⟩
  | 86 => ⟨S1x1x1, .i32⟩
  | 87 => ⟨S64x8x1, .i32⟩
  | 88 => ⟨S64x8x1, .i1⟩
  | 89 => ⟨S64x8x1, .i1⟩
  | 90 => ⟨S_, .i1⟩
  | 91 => ⟨S64x8, .i1⟩
  | 92 => ⟨S64x8, .f32⟩
  | 93 => ⟨S_, .f32⟩
  | 94 => ⟨S64x8, .f32⟩
  | 95 => ⟨S64x8, .f32⟩
  | 96 => ⟨S64x1x8, .f32⟩
  | 97 => ⟨S64x128x8, .f32⟩
  | 98 => ⟨S64x128x8, .f32⟩
  | 99 => ⟨S64x1x8, .f32⟩
  | 100 => ⟨S64x128x8, .f32⟩
  | 101 => ⟨S64x128x8, .f32⟩
  | 102 => ⟨S64x1024x1, .i32⟩
  | 103 => ⟨S64x1024, .i32⟩
  | 104 => ⟨S64x1024, .i32⟩
  | 105 => ⟨S64x1024, .i32⟩
  | 106 => ⟨S_, .i32⟩
  | 107 => ⟨S_, .i32⟩
  | 108 => ⟨S_, .i32⟩
  | 109 => ⟨S64x1024, .i32⟩
  | 110 => ⟨S64x1024, .i32⟩
  | 111 => ⟨S_, .i32⟩
  | 112 => ⟨S64x1024, .i32⟩
  | 113 => ⟨S64x1024, .i32⟩
  | 114 => ⟨S_, .i32⟩
  | 115 => ⟨S64x1024, .i32⟩
  | 116 => ⟨S64x1024, .i1⟩
  | 117 => ⟨S_, .i32⟩
  | 118 => ⟨S64x1024, .i32⟩
  | 119 => ⟨S64x1024, .i32⟩
  | 120 => ⟨S64x1024, .i32⟩
  | 121 => ⟨S64x1024x1, .i32⟩
  | 122 => ⟨S64x1024x4, .f32⟩
  | 123 => ⟨S64x1024x1, .i32⟩
  | 124 => ⟨S64x1024, .i32⟩
  | 125 => ⟨S_, .i32⟩
  | 126 => ⟨S64x1024, .i32⟩
  | 127 => ⟨S64x1024, .i1⟩
  | _ => ⟨S64x1024x32, .f32⟩

abbrev hbmTy0_1 (i : Nat) : BufTy := match i % 128 with
  | 0 => ⟨S_, .i32⟩
  | 1 => ⟨S64x1024, .i32⟩
  | 2 => ⟨S64x1024, .i32⟩
  | 3 => ⟨S64x1024, .i32⟩
  | 4 => ⟨S64x1024x1, .i32⟩
  | 5 => ⟨S64x1024x4, .f32⟩
  | 6 => ⟨S64x1024x1, .i32⟩
  | 7 => ⟨S64x1024, .i32⟩
  | 8 => ⟨S_, .i32⟩
  | 9 => ⟨S64x1024, .i32⟩
  | 10 => ⟨S64x1024, .i1⟩
  | 11 => ⟨S_, .i32⟩
  | 12 => ⟨S64x1024, .i32⟩
  | 13 => ⟨S64x1024, .i32⟩
  | 14 => ⟨S64x1024, .i32⟩
  | 15 => ⟨S64x1024x1, .i32⟩
  | 16 => ⟨S64x1024x6, .f32⟩
  | 17 => ⟨S64x1024x1, .i32⟩
  | 18 => ⟨S64x1024, .i32⟩
  | 19 => ⟨S_, .i32⟩
  | 20 => ⟨S64x1024, .i32⟩
  | 21 => ⟨S64x1024, .i1⟩
  | 22 => ⟨S_, .i32⟩
  | 23 => ⟨S64x1024, .i32⟩
  | 24 => ⟨S64x1024, .i32⟩
  | 25 => ⟨S64x1024, .i32⟩
  | 26 => ⟨S64x1024x1, .i32⟩
  | 27 => ⟨S64x1024x4, .f32⟩
  | 28 => ⟨S64x1024x18, .f32⟩
  | 29 => ⟨S64x128x1, .i32⟩
  | 30 => ⟨S64x128, .i32⟩
  | 31 => ⟨S64x128, .i32⟩
  | 32 => ⟨S64x128, .i32⟩
  | 33 => ⟨S_, .i32⟩
  | 34 => ⟨S_, .i32⟩
  | 35 => ⟨S_, .i32⟩
  | 36 => ⟨S64x128, .i32⟩
  | 37 => ⟨S64x128, .i32⟩
  | 38 => ⟨S_, .i32⟩
  | 39 => ⟨S64x128, .i32⟩
  | 40 => ⟨S64x128, .i32⟩
  | 41 => ⟨S_, .i32⟩
  | 42 => ⟨S64x128, .i32⟩
  | 43 => ⟨S64x128, .i1⟩
  | 44 => ⟨S_, .i32⟩
  | 45 => ⟨S64x128, .i32⟩
  | 46 => ⟨S64x128, .i32⟩
  | 47 => ⟨S64x128, .i32⟩
  | 48 => ⟨S64x128x1, .i32⟩
  | 49 => ⟨S64x128x4, .f32⟩
  | 50 => ⟨S64x128x1, .i32⟩
  | 51 => ⟨S64x128, .i32⟩
  | 52 => ⟨S_, .i32⟩
  | 53 => ⟨S64x128, .i32⟩
  | 54 => ⟨S64x128, .i1⟩
  | 55 => ⟨S_, .i32⟩
  | 56 => ⟨S64x128, .i32⟩
  | 57 => ⟨S64x128, .i32⟩
  | 58 => ⟨S64x128, .i32⟩
  | 59 => ⟨S64x128x1, .i32⟩
  | 60 => ⟨S64x128x4, .f32⟩
  | 61 => ⟨S64x128x1, .i32⟩
  | 62 => ⟨S64x128, .i32⟩
  | 63 => ⟨S_, .i32⟩
  | 64 => ⟨S64x128, .i32⟩
  | 65 => ⟨S64x128, .i1⟩
  | 66 => ⟨S_, .i32⟩
  | 67 => ⟨S64x128, .i32⟩
  | 68 => ⟨S64x128, .i32⟩
  | 69 => ⟨S64x128, .i32⟩
  | 70 => ⟨S64x128x1, .i32⟩
  | 71 => ⟨S64x128x6, .f32⟩
  | 72 => ⟨S64x128x1, .i32⟩
  | 73 => ⟨S64x128, .i32⟩
  | 74 => ⟨S_, .i32⟩
  | 75 => ⟨S64x128, .i32⟩
  | 76 => ⟨S64x128, .i1⟩
  | 77 => ⟨S_, .i32⟩
  | 78 => ⟨S64x128, .i32⟩
  | 79 => ⟨S64x128, .i32⟩
  | 80 => ⟨S64x128, .i32⟩
  | 81 => ⟨S64x128x1, .i32⟩
  | 82 => ⟨S64x128x4, .f32⟩
  | 83 => ⟨S64x128x18, .f32⟩
  | 84 => ⟨S64x1024x1x18, .f32⟩
  | 85 => ⟨S64x128x1x18, .f32⟩
  | 86 => ⟨S64x128x32x18, .f32⟩
  | 87 => ⟨S64x1024x32x1, .f32⟩
  | 88 => ⟨S1x1x1x18, .f32⟩
  | 89 => ⟨S64x1024x32x18, .f32⟩
  | 90 => ⟨S64x1024x32x18, .f32⟩
  | 91 => ⟨S64x1024x32x18, .f32⟩
  | 92 => ⟨S1x1x1x18, .f32⟩
  | 93 => ⟨S64x1024x32x18, .f32⟩
  | 94 => ⟨S64x1024x32x18, .f32⟩
  | 95 => ⟨S64x1024x32x18, .f32⟩
  | 96 => ⟨S64x1024x32x18, .f32⟩
  | 97 => ⟨S64x1024x576, .f32⟩
  | _ => ⟨S64x1024x32, .f32⟩

abbrev hbmTy (i : Nat) : BufTy := match i / 128 with
  | 0 => hbmTy0_0 i
  | 1 => hbmTy0_1 i
  | _ => ⟨S64x1024x32, .f32⟩

abbrev bufTy : (tb : Table) → Fin (tcTables nBuf tb) → BufTy
  | .hbm, ⟨i, _⟩ => hbmTy i
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v33 : Ref sig .tc := ⟨.hbm, 72, rfl⟩
abbrev main_v34 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_cst : Ref sig .tc := ⟨.hbm, 93, rfl⟩
abbrev main_call2_v14 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_c : Ref sig .tc := ⟨.hbm, 106, rfl⟩
abbrev main_c_6 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v46 : Ref sig .tc := ⟨.hbm, 113, rfl⟩
abbrev main_c_7 : Ref sig .tc := ⟨.hbm, 114, rfl⟩
abbrev main_v47 : Ref sig .tc := ⟨.hbm, 115, rfl⟩
abbrev main_v48 : Ref sig .tc := ⟨.hbm, 116, rfl⟩
abbrev main_c_8 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_c_9 : Ref sig .tc := ⟨.hbm, 125, rfl⟩
abbrev main_v56 : Ref sig .tc := ⟨.hbm, 126, rfl⟩
abbrev main_v57 : Ref sig .tc := ⟨.hbm, 127, rfl⟩
abbrev main_c_10 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_c_11 : Ref sig .tc := ⟨.hbm, 136, rfl⟩
abbrev main_v65 : Ref sig .tc := ⟨.hbm, 137, rfl⟩
abbrev main_v66 : Ref sig .tc := ⟨.hbm, 138, rfl⟩
abbrev main_c_12 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_c_13 : Ref sig .tc := ⟨.hbm, 147, rfl⟩
abbrev main_v74 : Ref sig .tc := ⟨.hbm, 148, rfl⟩
abbrev main_v75 : Ref sig .tc := ⟨.hbm, 149, rfl⟩
abbrev main_c_14 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_c_15 : Ref sig .tc := ⟨.hbm, 161, rfl⟩
abbrev main_c_16 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v86 : Ref sig .tc := ⟨.hbm, 168, rfl⟩
abbrev main_c_17 : Ref sig .tc := ⟨.hbm, 169, rfl⟩
abbrev main_v87 : Ref sig .tc := ⟨.hbm, 170, rfl⟩
abbrev main_v88 : Ref sig .tc := ⟨.hbm, 171, rfl⟩
abbrev main_c_18 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_c_19 : Ref sig .tc := ⟨.hbm, 180, rfl⟩
abbrev main_v96 : Ref sig .tc := ⟨.hbm, 181, rfl⟩
abbrev main_v97 : Ref sig .tc := ⟨.hbm, 182, rfl⟩
abbrev main_c_20 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_c_21 : Ref sig .tc := ⟨.hbm, 191, rfl⟩
abbrev main_v105 : Ref sig .tc := ⟨.hbm, 192, rfl⟩
abbrev main_v106 : Ref sig .tc := ⟨.hbm, 193, rfl⟩
abbrev main_c_22 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_c_23 : Ref sig .tc := ⟨.hbm, 202, rfl⟩
abbrev main_v114 : Ref sig .tc := ⟨.hbm, 203, rfl⟩
abbrev main_v115 : Ref sig .tc := ⟨.hbm, 204, rfl⟩
abbrev main_c_24 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩

abbrev nD : Nat := 1
abbrev τ : Topo := Topo.v7x

variable {F : FTy → Type} [FloatOps F]
-- ==== Proof.Shared.Stages.lean ====
/-
  The statistics kernel's sorting network on named stages, over any float instance.

  A block of the first kernel holds 128 columns (four batches of 32 channels) of 1024 rows, cut into eight chunks of 128
  rows. A stage compares row `r` of a chunk with row `r + d`; a step across chunks compares whole chunks. Each
  definition spells the operations the kernel runs, so that the kernel's body is these definitions by unfolding.
-/
module

public import Idealize.ShloMosaic.PureOps
public import Idealize.ShloMosaic.Lib.Decide

@[expose] public section

noncomputable section

namespace Cert.Net

open Idealize.ShloMosaic

/-- A chunk: 128 rows of 128 columns. -/
abbrev V : Shape := ⟨2, ![128, 128]⟩
/-- Rows grouped as `g` groups of `e` runs of `d` rows. -/
abbrev s4 (g e d : Nat) : Shape := ⟨4, ![g, e, d, 128]⟩
/-- One run of every group. -/
abbrev s3 (g d : Nat) : Shape := ⟨3, ![g, d, 128]⟩
/-- One word for every group. -/
abbrev sG (g : Nat) : Shape := ⟨3, ![g, 1, 1]⟩

/-- The relations between shapes that a stage of `g` groups at distance `d` uses. -/
structure Fits (g d : Nat) : Prop where
  split : V.ShapeCasts (s4 g 2 d)
  first : (s4 g 2 d).Slices ![0, 0, 0, 0] (s4 g 1 d)
  second : (s4 g 2 d).Slices ![0, 1, 0, 0] (s4 g 1 d)
  drop : (s4 g 1 d).ShapeCasts (s3 g d)
  groups : (sG g).Iotas .tc 32 [0]
  same : (sG g).ShapeCasts (sG g)
  spread : (sG g).Broadcasts (s3 g d)
  lift : (s3 g d).ShapeCasts (s4 g 1 d)
  glue : Shape.Concatenates [s4 g 1 d, s4 g 1 d] (s4 g 2 d) 1
  join : (s4 g 2 d).ShapeCasts V

theorem fits1 : Fits 64 1 := ⟨by decide, by decide, by decide, by decide, by decide, by decide, by decide, by decide, by decide, by decide⟩
theorem fits2 : Fits 32 2 := ⟨by decide, by decide, by decide, by decide, by decide, by decide, by decide, by decide, by decide, by decide⟩
theorem fits4 : Fits 16 4 := ⟨by decide, by decide, by decide, by decide, by decide, by decide, by decide, by decide, by decide, by decide⟩
theorem fits8 : Fits 8 8 := ⟨by decide, by decide, by decide, by decide, by decide, by decide, by decide, by decide, by decide, by decide⟩
theorem fits16 : Fits 4 16 := ⟨by decide, by decide, by decide, by decide, by decide, by decide, by decide, by decide, by decide, by decide⟩
theorem fits32 : Fits 2 32 := ⟨by decide, by decide, by decide, by decide, by decide, by decide, by decide, by decide, by decide, by decide⟩
theorem fits64 : Fits 1 64 := ⟨by decide, by decide, by decide, by decide, by decide, by decide, by decide, by decide, by decide, by decide⟩

variable {F : FTy → Type} [FloatOps F]

/-- The rows of every group's first run. -/
def firstRun (g d : Nat) (e : Fits g d) (y : FVec F V .f32) : FVec F (s3 g d) .f32 :=
  shapeCast (s3 g d) (extractStridedSlice (s4 g 1 d) ![0, 0, 0, 0] (shapeCast (s4 g 2 d) y e.split) e.first) e.drop

/-- The rows of every group's second run. -/
def secondRun (g d : Nat) (e : Fits g d) (y : FVec F V .f32) : FVec F (s3 g d) .f32 :=
  shapeCast (s3 g d) (extractStridedSlice (s4 g 1 d) ![0, 1, 0, 0] (shapeCast (s4 g 2 d) y e.split) e.second) e.drop

/-- The two runs of every group, put back together. -/
def weave (g d : Nat) (e : Fits g d) (a b : FVec F (s3 g d) .f32) : FVec F V .f32 :=
  shapeCast V (concatenate (s4 g 2 d) 1 [⟨s4 g 1 d, shapeCast (s4 g 1 d) a e.lift⟩, ⟨s4 g 1 d, shapeCast (s4 g 1 d) b e.lift⟩] e.glue) e.join

/-- Where bit `sh` of the group's number is set. -/
def turned (g d : Nat) (e : Fits g d) (sh : BitVec 32) : IVec (sG g) 1 :=
  cmpi .eq (andi (shrsi (iota .tc (sG g) 32 [0] e.groups) (broadcast (sG g) sh)) (broadcast (sG g) 1#32)) (broadcast (sG g) 1#32)

/-- A stage whose direction is bit `sh` of the group's number: descending where it is set. -/
def stageBy (g d : Nat) (e : Fits g d) (sh : BitVec 32) (y : FVec F V .f32) : FVec F V .f32 :=
  weave g d e
    (select (broadcastTo (s3 g d) (shapeCast (sG g) (turned g d e sh) e.same) e.spread)
      (maximumf (firstRun g d e y) (secondRun g d e y)) (minimumf (firstRun g d e y) (secondRun g d e y)))
    (select (broadcastTo (s3 g d) (shapeCast (sG g) (turned g d e sh) e.same) e.spread)
      (minimumf (firstRun g d e y) (secondRun g d e y)) (maximumf (firstRun g d e y) (secondRun g d e y)))

/-- A stage of one direction throughout. -/
def stageTo (g d : Nat) (e : Fits g d) (desc : Bool) (y : FVec F V .f32) : FVec F V .f32 :=
  match desc with
  | true => weave g d e (maximumf (firstRun g d e y) (secondRun g d e y)) (minimumf (firstRun g d e y) (secondRun g d e y))
  | false => weave g d e (minimumf (firstRun g d e y) (secondRun g d e y)) (maximumf (firstRun g d e y) (secondRun g d e y))

/-- The seven stages of one direction, from distance 64 down to distance 1. -/
def mergeTo (desc : Bool) (y : FVec F V .f32) : FVec F V .f32 :=
  stageTo 64 1 fits1 desc (stageTo 32 2 fits2 desc (stageTo 16 4 fits4 desc (stageTo 8 8 fits8 desc
    (stageTo 4 16 fits16 desc (stageTo 2 32 fits32 desc (stageTo 1 64 fits64 desc y))))))

/-- Levels 1 to 6 of the sort of a chunk: the stages with directions by group. -/
def levels (y : FVec F V .f32) : FVec F V .f32 :=
  let y1 := stageBy 64 1 fits1 0#32 y
  let y2 := stageBy 64 1 fits1 1#32 (stageBy 32 2 fits2 0#32 y1)
  let y3 := stageBy 64 1 fits1 2#32 (stageBy 32 2 fits2 1#32 (stageBy 16 4 fits4 0#32 y2))
  let y4 := stageBy 64 1 fits1 3#32 (stageBy 32 2 fits2 2#32 (stageBy 16 4 fits4 1#32 (stageBy 8 8 fits8 0#32 y3)))
  let y5 := stageBy 64 1 fits1 4#32 (stageBy 32 2 fits2 3#32 (stageBy 16 4 fits4 2#32 (stageBy 8 8 fits8 1#32
    (stageBy 4 16 fits16 0#32 y4))))
  stageBy 64 1 fits1 5#32 (stageBy 32 2 fits2 4#32 (stageBy 16 4 fits4 3#32 (stageBy 8 8 fits8 2#32
    (stageBy 4 16 fits16 1#32 (stageBy 2 32 fits32 0#32 y5)))))

/-- The eight chunks sorted one by one, the odd ones descending. -/
def sorted8 (x : Fin 8 → FVec F V .f32) : Fin 8 → FVec F V .f32 :=
  ![mergeTo false (levels (x 0)), mergeTo true (levels (x 1)), mergeTo false (levels (x 2)), mergeTo true (levels (x 3)),
    mergeTo false (levels (x 4)), mergeTo true (levels (x 5)), mergeTo false (levels (x 6)), mergeTo true (levels (x 7))]

/-- Neighbouring chunks compared: pairs 1 and 3 descending. -/
def cross8 (x : Fin 8 → FVec F V .f32) : Fin 8 → FVec F V .f32 :=
  ![minimumf (x 0) (x 1), maximumf (x 0) (x 1), maximumf (x 2) (x 3), minimumf (x 2) (x 3),
    minimumf (x 4) (x 5), maximumf (x 4) (x 5), maximumf (x 6) (x 7), minimumf (x 6) (x 7)]

/-- Each chunk merged: pairs 1 and 3 descending. -/
def merge8 (x : Fin 8 → FVec F V .f32) : Fin 8 → FVec F V .f32 :=
  ![mergeTo false (x 0), mergeTo false (x 1), mergeTo true (x 2), mergeTo true (x 3),
    mergeTo false (x 4), mergeTo false (x 5), mergeTo true (x 6), mergeTo true (x 7)]

/-- Chunks two apart compared: the second four descending. -/
def cross9two (x : Fin 8 → FVec F V .f32) : Fin 8 → FVec F V .f32 :=
  ![minimumf (x 0) (x 2), minimumf (x 1) (x 3), maximumf (x 0) (x 2), maximumf (x 1) (x 3),
    maximumf (x 4) (x 6), maximumf (x 5) (x 7), minimumf (x 4) (x 6), minimumf (x 5) (x 7)]

/-- Neighbouring chunks compared: the second four descending. -/
def cross9one (x : Fin 8 → FVec F V .f32) : Fin 8 → FVec F V .f32 :=
  ![minimumf (x 0) (x 1), maximumf (x 0) (x 1), minimumf (x 2) (x 3), maximumf (x 2) (x 3),
    maximumf (x 4) (x 5), minimumf (x 4) (x 5), maximumf (x 6) (x 7), minimumf (x 6) (x 7)]

/-- Each chunk merged: the second four descending. -/
def merge9 (x : Fin 8 → FVec F V .f32) : Fin 8 → FVec F V .f32 :=
  ![mergeTo false (x 0), mergeTo false (x 1), mergeTo false (x 2), mergeTo false (x 3),
    mergeTo true (x 4), mergeTo true (x 5), mergeTo true (x 6), mergeTo true (x 7)]

/-- Chunks four apart compared, ascending. -/
def cross10four (x : Fin 8 → FVec F V .f32) : Fin 8 → FVec F V .f32 :=
  ![minimumf (x 0) (x 4), minimumf (x 1) (x 5), minimumf (x 2) (x 6), minimumf (x 3) (x 7),
    maximumf (x 0) (x 4), maximumf (x 1) (x 5), maximumf (x 2) (x 6), maximumf (x 3) (x 7)]

/-- Chunks two apart compared, ascending. -/
def cross10two (x : Fin 8 → FVec F V .f32) : Fin 8 → FVec F V .f32 :=
  ![minimumf (x 0) (x 2), minimumf (x 1) (x 3), maximumf (x 0) (x 2), maximumf (x 1) (x 3),
    minimumf (x 4) (x 6), minimumf (x 5) (x 7), maximumf (x 4) (x 6), maximumf (x 5) (x 7)]

/-- Neighbouring chunks compared, ascending. -/
def cross10one (x : Fin 8 → FVec F V .f32) : Fin 8 → FVec F V .f32 :=
  ![minimumf (x 0) (x 1), maximumf (x 0) (x 1), minimumf (x 2) (x 3), maximumf (x 2) (x 3),
    minimumf (x 4) (x 5), maximumf (x 4) (x 5), minimumf (x 6) (x 7), maximumf (x 6) (x 7)]

/-- Each chunk merged, ascending. -/
def merge10 (x : Fin 8 → FVec F V .f32) : Fin 8 → FVec F V .f32 :=
  ![mergeTo false (x 0), mergeTo false (x 1), mergeTo false (x 2), mergeTo false (x 3),
    mergeTo false (x 4), mergeTo false (x 5), mergeTo false (x 6), mergeTo false (x 7)]

/-- The whole sort of a block's eight chunks. -/
def network (x : Fin 8 → FVec F V .f32) : Fin 8 → FVec F V .f32 :=
  merge10 (cross10one (cross10two (cross10four (merge9 (cross9one (cross9two (merge8 (cross8 (sorted8 x)))))))))

/-! ## A block's chunks, and the two rows of statistics -/

/-- A block: four batches of 1024 rows by 32 channels. -/
abbrev Blk : Shape := ⟨3, ![4, 1024, 32]⟩
abbrev One : Shape := ⟨3, ![1, 1024, 32]⟩
abbrev Mat : Shape := ⟨2, ![1024, 32]⟩
abbrev Wide : Shape := ⟨2, ![1024, 128]⟩
abbrev Row : Shape := ⟨2, ![1, 128]⟩

theorem one0 : Blk.Slices ![0, 0, 0] One := by decide
theorem one1 : Blk.Slices ![1, 0, 0] One := by decide
theorem one2 : Blk.Slices ![2, 0, 0] One := by decide
theorem one3 : Blk.Slices ![3, 0, 0] One := by decide
theorem oneMat : One.ShapeCasts Mat := by decide
theorem side4 : Shape.Concatenates [Mat, Mat, Mat, Mat] Wide 1 := by decide
theorem cut (c : Fin 8) : Wide.Slices ![128 * c.val, 0] V := by revert c; decide
theorem lastRow : V.Slices ![127, 0] Row := by decide
theorem headRow : V.Slices ![0, 0] Row := by decide

/-- The four batches side by side. -/
def wide (x : FVec F Blk .f32) : FVec F Wide .f32 :=
  concatenate Wide 1 [⟨Mat, shapeCast Mat (extractStridedSlice One ![0, 0, 0] x one0) oneMat⟩,
    ⟨Mat, shapeCast Mat (extractStridedSlice One ![1, 0, 0] x one1) oneMat⟩,
    ⟨Mat, shapeCast Mat (extractStridedSlice One ![2, 0, 0] x one2) oneMat⟩,
    ⟨Mat, shapeCast Mat (extractStridedSlice One ![3, 0, 0] x one3) oneMat⟩] side4

/-- The block's eight chunks. -/
def chunks (x : FVec F Blk .f32) : Fin 8 → FVec F V .f32 :=
  ![extractStridedSlice V ![0, 0] (wide x) (cut 0), extractStridedSlice V ![128, 0] (wide x) (cut 1),
    extractStridedSlice V ![256, 0] (wide x) (cut 2), extractStridedSlice V ![384, 0] (wide x) (cut 3),
    extractStridedSlice V ![512, 0] (wide x) (cut 4), extractStridedSlice V ![640, 0] (wide x) (cut 5),
    extractStridedSlice V ![768, 0] (wide x) (cut 6), extractStridedSlice V ![896, 0] (wide x) (cut 7)]

/-- A chunk's last row and a chunk's first row. -/
def last (y : FVec F V .f32) : FVec F Row .f32 := extractStridedSlice Row ![127, 0] y lastRow
def head (y : FVec F V .f32) : FVec F Row .f32 := extractStridedSlice Row ![0, 0] y headRow

/-- A row of one constant, by its bits. -/
def level (w : BitVec 32) : FVec F Row .f32 := broadcast Row (Scalar.ofBits .f32 w)

/-- The medians, from the sorted chunks. -/
def medians (y : Fin 8 → FVec F V .f32) : FVec F Row .f32 := mulf (level 0x3F000000#32) (addf (last (y 3)) (head (y 4)))

/-- The ranges between the quartiles plus the small constant, from the sorted chunks. -/
def ranges (y : Fin 8 → FVec F V .f32) : FVec F Row .f32 :=
  addf (subf (addf (mulf (level 0x3F400000#32) (last (y 5))) (mulf (level 0x3E800000#32) (head (y 6))))
      (addf (mulf (level 0x3E800000#32) (last (y 1))) (mulf (level 0x3F400000#32) (head (y 2)))))
    (level 0x3A83126F#32)

/-- A block's medians and ranges. -/
def blockMed (x : FVec F Blk .f32) : FVec F Row .f32 := medians (network (chunks x))
def blockIqr (x : FVec F Blk .f32) : FVec F Row .f32 := ranges (network (chunks x))

/-! ## The rows stored for one batch -/

abbrev Part : Shape := ⟨2, ![1, 32]⟩
abbrev Part3 : Shape := ⟨3, ![1, 1, 32]⟩
abbrev Six : Shape := ⟨2, ![6, 32]⟩
abbrev Six3 : Shape := ⟨3, ![1, 6, 32]⟩

theorem partOf0 : Row.Slices ![0, 0] Part := by decide
theorem partOf1 : Row.Slices ![0, 32] Part := by decide
theorem partOf2 : Row.Slices ![0, 64] Part := by decide
theorem partOf3 : Row.Slices ![0, 96] Part := by decide
theorem partUp : Part.ShapeCasts Part3 := by decide
theorem partSame : Part.ShapeCasts Part := by decide
theorem partSix : Part.Broadcasts Six := by decide
theorem sixUp : Six.ShapeCasts Six3 := by decide

/-- The 32 columns from `off` on, as one row to store. -/
def rowAt (off : Nat) (h : Row.Slices ![0, off] Part) (v : FVec F Row .f32) : FVec F Part3 .f32 :=
  shapeCast Part3 (extractStridedSlice Part ![0, off] v h) partUp

/-- The same 32 columns, as six equal rows to store. -/
def rowsAt (off : Nat) (h : Row.Slices ![0, off] Part) (v : FVec F Row .f32) : FVec F Six3 .f32 :=
  shapeCast Six3 (broadcastTo Six (shapeCast Part (extractStridedSlice Part ![0, off] v h) partSame) partSix) sixUp

end Cert.Net

end
-- ==== Proof.KernelIdeal.Body.lean ====
/-
  The statistics kernel's body as one load, the sorting network, and twelve stores.
-/
module

public import proofs.«01_k».proof.Proof.Gen.KernelIdeal
public import proofs.«01_k».proof.Proof.Shared.Stages
public import Idealize.ShloMosaic.Lib.Tactic

@[expose] public section

noncomputable section

namespace Cert.KernelIdeal.Gen

open Idealize.ShloMosaic Idealize.SL.Sem Cert.KernelIdeal Cert.Net

variable {F : FTy → Type} [FloatOps F]

/-- The block's load, and for each of its four batches the row of medians, the row of ranges and six rows of medians again. -/
def statsBody (i : grid0.Coords) (arg1 : Memref sig .tc .vmem S4x1024x32 .f32) (harg1 : arg1.IsWhole) (arg2 : Memref sig .tc .vmem S4x8x32 .f32) (harg2 : arg2.IsWhole) :
    Prog (TpuEff nD τ sig (Elt F) Λ₀ .tc) PUnit := do
  let x : Vec F S4x1024x32 .f32 ← Prog.lift (.load arg1 (Rect.unit (s := S4x1024x32) ![0, 0, 0] S4x1024x32.size inb_S4x1024x32_S4x1024x32_0_0_0).toLoadRect (View.loadsAt_vmem h_S4x1024x32))
  let _ : Vec F S1x1x32 .f32 ← Prog.lift (.load arg2 (Rect.unit (s := S4x8x32) ![0, 0, 0] S1x1x32.size inb_S4x8x32_S1x1x32_0_0_0).toLoadRect (View.loadsAt_vmem h_S1x1x32))
  Prog.lift (.store arg2 (Rect.unit (s := S4x8x32) ![0, 0, 0] S1x1x32.size inb_S4x8x32_S1x1x32_0_0_0) (rowAt 0 partOf0 (blockMed x)) Finset.univ (View.stores_vmem_bits_univ h_S1x1x32 rfl) (.inl rfl))
  let _ : Vec F S1x1x32 .f32 ← Prog.lift (.load arg2 (Rect.unit (s := S4x8x32) ![0, 1, 0] S1x1x32.size inb_S4x8x32_S1x1x32_0_1_0).toLoadRect (View.loadsAt_vmem h_S1x1x32))
  Prog.lift (.store arg2 (Rect.unit (s := S4x8x32) ![0, 1, 0] S1x1x32.size inb_S4x8x32_S1x1x32_0_1_0) (rowAt 0 partOf0 (blockIqr x)) Finset.univ (View.stores_vmem_bits_univ h_S1x1x32 rfl) (.inl rfl))
  let _ : Vec F S1x6x32 .f32 ← Prog.lift (.load arg2 (Rect.unit (s := S4x8x32) ![0, 2, 0] S1x6x32.size inb_S4x8x32_S1x6x32_0_2_0).toLoadRect (View.loadsAt_vmem h_S1x6x32))
  Prog.lift (.store arg2 (Rect.unit (s := S4x8x32) ![0, 2, 0] S1x6x32.size inb_S4x8x32_S1x6x32_0_2_0) (rowsAt 0 partOf0 (blockMed x)) Finset.univ (View.stores_vmem_bits_univ h_S1x6x32 rfl) (.inl rfl))
  let _ : Vec F S1x1x32 .f32 ← Prog.lift (.load arg2 (Rect.unit (s := S4x8x32) ![1, 0, 0] S1x1x32.size inb_S4x8x32_S1x1x32_1_0_0).toLoadRect (View.loadsAt_vmem h_S1x1x32))
  Prog.lift (.store arg2 (Rect.unit (s := S4x8x32) ![1, 0, 0] S1x1x32.size inb_S4x8x32_S1x1x32_1_0_0) (rowAt 32 partOf1 (blockMed x)) Finset.univ (View.stores_vmem_bits_univ h_S1x1x32 rfl) (.inl rfl))
  let _ : Vec F S1x1x32 .f32 ← Prog.lift (.load arg2 (Rect.unit (s := S4x8x32) ![1, 1, 0] S1x1x32.size inb_S4x8x32_S1x1x32_1_1_0).toLoadRect (View.loadsAt_vmem h_S1x1x32))
  Prog.lift (.store arg2 (Rect.unit (s := S4x8x32) ![1, 1, 0] S1x1x32.size inb_S4x8x32_S1x1x32_1_1_0) (rowAt 32 partOf1 (blockIqr x)) Finset.univ (View.stores_vmem_bits_univ h_S1x1x32 rfl) (.inl rfl))
  let _ : Vec F S1x6x32 .f32 ← Prog.lift (.load arg2 (Rect.unit (s := S4x8x32) ![1, 2, 0] S1x6x32.size inb_S4x8x32_S1x6x32_1_2_0).toLoadRect (View.loadsAt_vmem h_S1x6x32))
  Prog.lift (.store arg2 (Rect.unit (s := S4x8x32) ![1, 2, 0] S1x6x32.size inb_S4x8x32_S1x6x32_1_2_0) (rowsAt 32 partOf1 (blockMed x)) Finset.univ (View.stores_vmem_bits_univ h_S1x6x32 rfl) (.inl rfl))
  let _ : Vec F S1x1x32 .f32 ← Prog.lift (.load arg2 (Rect.unit (s := S4x8x32) ![2, 0, 0] S1x1x32.size inb_S4x8x32_S1x1x32_2_0_0).toLoadRect (View.loadsAt_vmem h_S1x1x32))
  Prog.lift (.store arg2 (Rect.unit (s := S4x8x32) ![2, 0, 0] S1x1x32.size inb_S4x8x32_S1x1x32_2_0_0) (rowAt 64 partOf2 (blockMed x)) Finset.univ (View.stores_vmem_bits_univ h_S1x1x32 rfl) (.inl rfl))
  let _ : Vec F S1x1x32 .f32 ← Prog.lift (.load arg2 (Rect.unit (s := S4x8x32) ![2, 1, 0] S1x1x32.size inb_S4x8x32_S1x1x32_2_1_0).toLoadRect (View.loadsAt_vmem h_S1x1x32))
  Prog.lift (.store arg2 (Rect.unit (s := S4x8x32) ![2, 1, 0] S1x1x32.size inb_S4x8x32_S1x1x32_2_1_0) (rowAt 64 partOf2 (blockIqr x)) Finset.univ (View.stores_vmem_bits_univ h_S1x1x32 rfl) (.inl rfl))
  let _ : Vec F S1x6x32 .f32 ← Prog.lift (.load arg2 (Rect.unit (s := S4x8x32) ![2, 2, 0] S1x6x32.size inb_S4x8x32_S1x6x32_2_2_0).toLoadRect (View.loadsAt_vmem h_S1x6x32))
  Prog.lift (.store arg2 (Rect.unit (s := S4x8x32) ![2, 2, 0] S1x6x32.size inb_S4x8x32_S1x6x32_2_2_0) (rowsAt 64 partOf2 (blockMed x)) Finset.univ (View.stores_vmem_bits_univ h_S1x6x32 rfl) (.inl rfl))
  let _ : Vec F S1x1x32 .f32 ← Prog.lift (.load arg2 (Rect.unit (s := S4x8x32) ![3, 0, 0] S1x1x32.size inb_S4x8x32_S1x1x32_3_0_0).toLoadRect (View.loadsAt_vmem h_S1x1x32))
  Prog.lift (.store arg2 (Rect.unit (s := S4x8x32) ![3, 0, 0] S1x1x32.size inb_S4x8x32_S1x1x32_3_0_0) (rowAt 96 partOf3 (blockMed x)) Finset.univ (View.stores_vmem_bits_univ h_S1x1x32 rfl) (.inl rfl))
  let _ : Vec F S1x1x32 .f32 ← Prog.lift (.load arg2 (Rect.unit (s := S4x8x32) ![3, 1, 0] S1x1x32.size inb_S4x8x32_S1x1x32_3_1_0).toLoadRect (View.loadsAt_vmem h_S1x1x32))
  Prog.lift (.store arg2 (Rect.unit (s := S4x8x32) ![3, 1, 0] S1x1x32.size inb_S4x8x32_S1x1x32_3_1_0) (rowAt 96 partOf3 (blockIqr x)) Finset.univ (View.stores_vmem_bits_univ h_S1x1x32 rfl) (.inl rfl))
  let _ : Vec F S1x6x32 .f32 ← Prog.lift (.load arg2 (Rect.unit (s := S4x8x32) ![3, 2, 0] S1x6x32.size inb_S4x8x32_S1x6x32_3_2_0).toLoadRect (View.loadsAt_vmem h_S1x6x32))
  Prog.lift (.store arg2 (Rect.unit (s := S4x8x32) ![3, 2, 0] S1x6x32.size inb_S4x8x32_S1x6x32_3_2_0) (rowsAt 96 partOf3 (blockMed x)) Finset.univ (View.stores_vmem_bits_univ h_S1x6x32 rfl) (.inl rfl))
  pure ⟨⟩

set_option maxRecDepth 65536 in
/-- The kernel's body is that program: by unfolding, which the kernel of the prover checks. -/
theorem stats_body_eq (i : grid0.Coords) (arg1 : Memref sig .tc .vmem S4x1024x32 .f32) (harg1 : arg1.IsWhole) (arg2 : Memref sig .tc .vmem S4x8x32 .f32) (harg2 : arg2.IsWhole) :
    cc0__stats_body (F := F) i arg1 harg1 arg2 harg2 = statsBody i arg1 harg1 arg2 harg2 := by
  sl_kernel_rfl

end Cert.KernelIdeal.Gen

end
-- ==== Proof.KernelIdeal.Run.lean ====
/-
  The kernel's two regions among its host operations: what each leaves, and the whole run.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Body
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__stats_body` (pipeline 0), at the entry contents `V` — class R () -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S4x8x32 .f32 := (Memref.whole cc0_stg1_0 : Memref sig .tc .vmem S4x8x32 .f32).view
/-- Each window's current staging memref at point `t`, spelled as the pipeline passes it (`bodyAt0`), and its wholeness. -/
abbrev ms0_0 (t : Fin cfg0.N) : Memref sig .tc .vmem S4x1024x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x8x32 .f32 := win0_1.stage (cfg0.slots t 1)
abbrev hs0_1 (t : Fin cfg0.N) : (ms0_1 t).IsWhole := hstage0_1 ((cfg0.slots t 1).cast nbuf0_1)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S4x1024x32 .f32) (harg1 : arg1.IsWhole) (arg2 : Memref sig .tc .vmem S4x8x32 .f32) (harg2 : arg2.IsWhole)
    (x0 : Vec F S4x1024x32 .f32) :
    { L1 : List (View.Piece (Elt F) S4x8x32 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__stats_body i arg1 harg1 arg2 harg2) K } := by
  refine ⟨?_, fun E K => ?run⟩
  case run =>
    rw [stats_body_eq]; unfold statsBody
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-- The run's pieces for output 1 are of SEVERAL sizes (12 stores of `S1x1x32`, `S1x6x32`): cut into blocks of `![1, 1, 32]` they tile its block (checked by the kernel's evaluation: Lib/Ring.lean `Piece.tiledBy`), so they cover it. -/
theorem cover0_A_1 (c : Dev nD) (i : grid0.Coords) (arg1 : Memref sig .tc .vmem S4x1024x32 .f32) (harg1 : arg1.IsWhole) (arg2 : Memref sig .tc .vmem S4x8x32 .f32) (harg2 : arg2.IsWhole)
    (x0 : Vec F S4x1024x32 .f32) (y : S4x8x32.Idx) :
    ∃ pc ∈ (kernelRun0_A c i arg1 harg1 arg2 harg2 x0).1, y ∈ pc.1.set :=
  View.cover_of_tiledBy (kernelRun0_A c i arg1 harg1 arg2 harg2 x0).1 ![1, 1, 32] (by sl_kernel_rfl) y

/-- What the run leaves in output 1's staging buffer: its pieces read back over junk. -/
def out0_A_1 (c : Dev nD) (i : grid0.Coords) (arg1 : Memref sig .tc .vmem S4x1024x32 .f32) (harg1 : arg1.IsWhole) (arg2 : Memref sig .tc .vmem S4x8x32 .f32) (harg2 : arg2.IsWhole)
    (x0 : Vec F S4x1024x32 .f32) : Vec F S4x8x32 .f32 :=
  VO0_1.read (Elt F) (VO0_1.writes (Elt F) VO0_1.junk (kernelRun0_A c i arg1 harg1 arg2 harg2 x0).1)

/-! ## What the outputs hold after each point -/

/-- What the outputs' staging buffers hold after the body at point `t`: the run's contents at
    the point's memrefs and input blocks. -/
def outsAt0 (c : Dev nD) (t : Fin cfg0.N) : Vec F S4x8x32 .f32 :=
  out0_A_1 c (grid0.coords t) (ms0_0 t) (hs0_0 t) (ms0_1 t) (hs0_1 t) (iblk0 V c 0 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold outsAt0
  unfold out0_A_1
  iintro ⟨HΦ, Ho, ⟨%d0, H0⟩, ⟨%d1, H1⟩⟩
  iapply ((kernelRun0_A c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_A_1 c _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__expand_body` (pipeline 1), at the entry contents `V` — class R () -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at every point — by arithmetic of the point. -/
theorem hcond1_0 : ∀ t : Fin cfg1.N, cond1_0 (grid1.coords t) :=
  (fun t => by
    have ht : t.val < 64 := Nat.lt_of_lt_of_eq t.isLt N_1
    have e0 : (grid1.coords t 0).val = t.val / 1 % 64 := Pipeline.Grid.coords_val t 0 (by decide) rfl
    have e1 : (grid1.coords t 1).val = t.val / 1 % 1 := Pipeline.Grid.coords_val t 1 (by decide) rfl
    simp only [cond1_0, k1_cond1, e0, e1]
    word_cmp
   : ∀ t : Fin grid1.N, cond1_0 (grid1.coords t))

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- Window 9 is never idle (an input). -/
theorem liveAt1_9 : ∀ t : Fin cfg1.N, cfg1.idle 9 (grid1.coords t) = false := fun _ => rfl
/-- Window 10 is never idle (an input). -/
theorem liveAt1_10 : ∀ t : Fin cfg1.N, cfg1.idle 10 (grid1.coords t) = false := fun _ => rfl
/-- Window 11 is never idle (an input). -/
theorem liveAt1_11 : ∀ t : Fin cfg1.N, cfg1.idle 11 (grid1.coords t) = false := fun _ => rfl
/-- Window 12 is never idle (an output stored at every point, under no condition). -/
theorem liveAt1_12 : ∀ t : Fin cfg1.N, cfg1.idle 12 (grid1.coords t) = false := fun _ => rfl
/-- At the points of case A the printed configuration (`Cfg.idle`) calls output 13 live: the case stores into it. -/
theorem liveAt1_13_A : ∀ t : Fin cfg1.N, cond1_0 (grid1.coords t) → cfg1.idle 13 (grid1.coords t) = false := by decide +kernel
/-- At the points of case A the printed configuration (`Cfg.idle`) calls output 14 live: the case stores into it. -/
theorem liveAt1_14_A : ∀ t : Fin cfg1.N, cond1_0 (grid1.coords t) → cfg1.idle 14 (grid1.coords t) = false := by decide +kernel

/-! ## The kernel body on any staging memrefs: a subtype the run finds -/

/-- One staging buffer of output window 12, through which its contents are stated (`View.read_writes_of_cover`: the
    choice does not matter). -/
abbrev VO1_12 : View sig .tc .vmem S1x1024x576 .f32 := (Memref.whole cc1_stg12_0 : Memref sig .tc .vmem S1x1024x576 .f32).view
/-- One staging buffer of output window 13, through which its contents are stated (`View.read_writes_of_cover`: the
    choice does not matter). -/
abbrev VO1_13 : View sig .tc .vmem S1x128x576 .f32 := (Memref.whole cc1_stg13_0 : Memref sig .tc .vmem S1x128x576 .f32).view
/-- One staging buffer of output window 14, through which its contents are stated (`View.read_writes_of_cover`: the
    choice does not matter). -/
abbrev VO1_14 : View sig .tc .vmem S1x128x8 .f32 := (Memref.whole cc1_stg14_0 : Memref sig .tc .vmem S1x128x8 .f32).view
/-- Each window's current staging memref at point `t`, spelled as the pipeline passes it (`bodyAt1`), and its wholeness. -/
abbrev ms1_0 (t : Fin cfg1.N) : Memref sig .tc .vmem S1x1024x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x4 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128x4 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x8 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x576 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S11x4 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S12x4 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S31x6 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S7x4 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1024x576 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128x576 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x128x8 .f32 := win1_14.stage (cfg1.slots t 14)
abbrev hs1_14 (t : Fin cfg1.N) : (ms1_14 t).IsWhole := hstage1_14 ((cfg1.slots t 14).cast nbuf1_14)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1x1024x32 .f32) (harg2 : arg2.IsWhole) (arg3 : Memref sig .tc .vmem S1x8x32 .f32) (harg3 : arg3.IsWhole) (arg4 : Memref sig .tc .vmem S1x1024x4 .i32) (harg4 : arg4.IsWhole) (arg5 : Memref sig .tc .vmem S1x128x4 .i32) (harg5 : arg5.IsWhole) (arg6 : Memref sig .tc .vmem S1x128x8 .f32) (harg6 : arg6.IsWhole) (arg7 : Memref sig .tc .vmem S1x1x8 .i32) (harg7 : arg7.IsWhole) (arg8 : Memref sig .tc .vmem S1x1x1 .i32) (harg8 : arg8.IsWhole) (arg9 : Memref sig .tc .vmem S64x576 .f32) (harg9 : arg9.IsWhole) (arg10 : Memref sig .tc .vmem S11x4 .f32) (harg10 : arg10.IsWhole) (arg11 : Memref sig .tc .vmem S12x4 .f32) (harg11 : arg11.IsWhole) (arg12 : Memref sig .tc .vmem S31x6 .f32) (harg12 : arg12.IsWhole) (arg13 : Memref sig .tc .vmem S7x4 .f32) (harg13 : arg13.IsWhole) (arg14 : Memref sig .tc .vmem S1x1024x576 .f32) (harg14 : arg14.IsWhole) (arg15 : Memref sig .tc .vmem S1x128x576 .f32) (harg15 : arg15.IsWhole) (arg16 : Memref sig .tc .vmem S1x128x8 .f32) (harg16 : arg16.IsWhole) (hc0 : cond1_0 i)
    (x0 : Vec F S1x1024x32 .f32) (x1 : Vec F S1x8x32 .f32) (x2 : Vec F S1x1024x4 .i32) (x3 : Vec F S1x128x4 .i32) (x4 : Vec F S1x128x8 .f32) (x5 : Vec F S1x1x8 .i32) (x6 : Vec F S1x1x1 .i32) (x7 : Vec F S64x576 .f32) (x8 : Vec F S11x4 .f32) (x9 : Vec F S12x4 .f32) (x10 : Vec F S31x6 .f32) (x11 : Vec F S7x4 .f32) :
    Σ' (L12 : List (View.Piece (Elt F) S1x1024x576 .f32)), Σ' (L13 : List (View.Piece (Elt F) S1x128x576 .f32)), { L14 : List (View.Piece (Elt F) S1x128x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc1__expand_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc1__expand_body_eq_skeleton]; unfold cc1__expand_body_skel
    simp only [k1_part11_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    iexists _; iexact H14

/-- The run's pieces for output 12 tile its block (1 store of `S1x1024x576`, checked by the kernel's evaluation: Lib/Ring.lean `Piece.tiledL`, linear in the pieces, through a loop's `@[irreducible]` trip theorem too), so they cover it. -/
theorem cover1_A_12 (c : Dev nD) (i : grid1.Coords) (arg2 : Memref sig .tc .vmem S1x1024x32 .f32) (harg2 : arg2.IsWhole) (arg3 : Memref sig .tc .vmem S1x8x32 .f32) (harg3 : arg3.IsWhole) (arg4 : Memref sig .tc .vmem S1x1024x4 .i32) (harg4 : arg4.IsWhole) (arg5 : Memref sig .tc .vmem S1x128x4 .i32) (harg5 : arg5.IsWhole) (arg6 : Memref sig .tc .vmem S1x128x8 .f32) (harg6 : arg6.IsWhole) (arg7 : Memref sig .tc .vmem S1x1x8 .i32) (harg7 : arg7.IsWhole) (arg8 : Memref sig .tc .vmem S1x1x1 .i32) (harg8 : arg8.IsWhole) (arg9 : Memref sig .tc .vmem S64x576 .f32) (harg9 : arg9.IsWhole) (arg10 : Memref sig .tc .vmem S11x4 .f32) (harg10 : arg10.IsWhole) (arg11 : Memref sig .tc .vmem S12x4 .f32) (harg11 : arg11.IsWhole) (arg12 : Memref sig .tc .vmem S31x6 .f32) (harg12 : arg12.IsWhole) (arg13 : Memref sig .tc .vmem S7x4 .f32) (harg13 : arg13.IsWhole) (arg14 : Memref sig .tc .vmem S1x1024x576 .f32) (harg14 : arg14.IsWhole) (arg15 : Memref sig .tc .vmem S1x128x576 .f32) (harg15 : arg15.IsWhole) (arg16 : Memref sig .tc .vmem S1x128x8 .f32) (harg16 : arg16.IsWhole) (hc0 : cond1_0 i)
    (x0 : Vec F S1x1024x32 .f32) (x1 : Vec F S1x8x32 .f32) (x2 : Vec F S1x1024x4 .i32) (x3 : Vec F S1x128x4 .i32) (x4 : Vec F S1x128x8 .f32) (x5 : Vec F S1x1x8 .i32) (x6 : Vec F S1x1x1 .i32) (x7 : Vec F S64x576 .f32) (x8 : Vec F S11x4 .f32) (x9 : Vec F S12x4 .f32) (x10 : Vec F S31x6 .f32) (x11 : Vec F S7x4 .f32) (y : S1x1024x576.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 S1x1024x576.size (by sl_kernel_rfl) y

/-- What the run leaves in output 12's staging buffer: its pieces read back over junk. -/
def out1_A_12 (c : Dev nD) (i : grid1.Coords) (arg2 : Memref sig .tc .vmem S1x1024x32 .f32) (harg2 : arg2.IsWhole) (arg3 : Memref sig .tc .vmem S1x8x32 .f32) (harg3 : arg3.IsWhole) (arg4 : Memref sig .tc .vmem S1x1024x4 .i32) (harg4 : arg4.IsWhole) (arg5 : Memref sig .tc .vmem S1x128x4 .i32) (harg5 : arg5.IsWhole) (arg6 : Memref sig .tc .vmem S1x128x8 .f32) (harg6 : arg6.IsWhole) (arg7 : Memref sig .tc .vmem S1x1x8 .i32) (harg7 : arg7.IsWhole) (arg8 : Memref sig .tc .vmem S1x1x1 .i32) (harg8 : arg8.IsWhole) (arg9 : Memref sig .tc .vmem S64x576 .f32) (harg9 : arg9.IsWhole) (arg10 : Memref sig .tc .vmem S11x4 .f32) (harg10 : arg10.IsWhole) (arg11 : Memref sig .tc .vmem S12x4 .f32) (harg11 : arg11.IsWhole) (arg12 : Memref sig .tc .vmem S31x6 .f32) (harg12 : arg12.IsWhole) (arg13 : Memref sig .tc .vmem S7x4 .f32) (harg13 : arg13.IsWhole) (arg14 : Memref sig .tc .vmem S1x1024x576 .f32) (harg14 : arg14.IsWhole) (arg15 : Memref sig .tc .vmem S1x128x576 .f32) (harg15 : arg15.IsWhole) (arg16 : Memref sig .tc .vmem S1x128x8 .f32) (harg16 : arg16.IsWhole) (hc0 : cond1_0 i)
    (x0 : Vec F S1x1024x32 .f32) (x1 : Vec F S1x8x32 .f32) (x2 : Vec F S1x1024x4 .i32) (x3 : Vec F S1x128x4 .i32) (x4 : Vec F S1x128x8 .f32) (x5 : Vec F S1x1x8 .i32) (x6 : Vec F S1x1x1 .i32) (x7 : Vec F S64x576 .f32) (x8 : Vec F S11x4 .f32) (x9 : Vec F S12x4 .f32) (x10 : Vec F S31x6 .f32) (x11 : Vec F S7x4 .f32) : Vec F S1x1024x576 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1)

/-- The run's pieces for output 13 tile its block (1 store of `S1x128x576`, checked by the kernel's evaluation: Lib/Ring.lean `Piece.tiledL`, linear in the pieces, through a loop's `@[irreducible]` trip theorem too), so they cover it. -/
theorem cover1_A_13 (c : Dev nD) (i : grid1.Coords) (arg2 : Memref sig .tc .vmem S1x1024x32 .f32) (harg2 : arg2.IsWhole) (arg3 : Memref sig .tc .vmem S1x8x32 .f32) (harg3 : arg3.IsWhole) (arg4 : Memref sig .tc .vmem S1x1024x4 .i32) (harg4 : arg4.IsWhole) (arg5 : Memref sig .tc .vmem S1x128x4 .i32) (harg5 : arg5.IsWhole) (arg6 : Memref sig .tc .vmem S1x128x8 .f32) (harg6 : arg6.IsWhole) (arg7 : Memref sig .tc .vmem S1x1x8 .i32) (harg7 : arg7.IsWhole) (arg8 : Memref sig .tc .vmem S1x1x1 .i32) (harg8 : arg8.IsWhole) (arg9 : Memref sig .tc .vmem S64x576 .f32) (harg9 : arg9.IsWhole) (arg10 : Memref sig .tc .vmem S11x4 .f32) (harg10 : arg10.IsWhole) (arg11 : Memref sig .tc .vmem S12x4 .f32) (harg11 : arg11.IsWhole) (arg12 : Memref sig .tc .vmem S31x6 .f32) (harg12 : arg12.IsWhole) (arg13 : Memref sig .tc .vmem S7x4 .f32) (harg13 : arg13.IsWhole) (arg14 : Memref sig .tc .vmem S1x1024x576 .f32) (harg14 : arg14.IsWhole) (arg15 : Memref sig .tc .vmem S1x128x576 .f32) (harg15 : arg15.IsWhole) (arg16 : Memref sig .tc .vmem S1x128x8 .f32) (harg16 : arg16.IsWhole) (hc0 : cond1_0 i)
    (x0 : Vec F S1x1024x32 .f32) (x1 : Vec F S1x8x32 .f32) (x2 : Vec F S1x1024x4 .i32) (x3 : Vec F S1x128x4 .i32) (x4 : Vec F S1x128x8 .f32) (x5 : Vec F S1x1x8 .i32) (x6 : Vec F S1x1x1 .i32) (x7 : Vec F S64x576 .f32) (x8 : Vec F S11x4 .f32) (x9 : Vec F S12x4 .f32) (x10 : Vec F S31x6 .f32) (x11 : Vec F S7x4 .f32) (y : S1x128x576.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 S1x128x576.size (by sl_kernel_rfl) y

/-- What the run leaves in output 13's staging buffer: its pieces read back over junk. -/
def out1_A_13 (c : Dev nD) (i : grid1.Coords) (arg2 : Memref sig .tc .vmem S1x1024x32 .f32) (harg2 : arg2.IsWhole) (arg3 : Memref sig .tc .vmem S1x8x32 .f32) (harg3 : arg3.IsWhole) (arg4 : Memref sig .tc .vmem S1x1024x4 .i32) (harg4 : arg4.IsWhole) (arg5 : Memref sig .tc .vmem S1x128x4 .i32) (harg5 : arg5.IsWhole) (arg6 : Memref sig .tc .vmem S1x128x8 .f32) (harg6 : arg6.IsWhole) (arg7 : Memref sig .tc .vmem S1x1x8 .i32) (harg7 : arg7.IsWhole) (arg8 : Memref sig .tc .vmem S1x1x1 .i32) (harg8 : arg8.IsWhole) (arg9 : Memref sig .tc .vmem S64x576 .f32) (harg9 : arg9.IsWhole) (arg10 : Memref sig .tc .vmem S11x4 .f32) (harg10 : arg10.IsWhole) (arg11 : Memref sig .tc .vmem S12x4 .f32) (harg11 : arg11.IsWhole) (arg12 : Memref sig .tc .vmem S31x6 .f32) (harg12 : arg12.IsWhole) (arg13 : Memref sig .tc .vmem S7x4 .f32) (harg13 : arg13.IsWhole) (arg14 : Memref sig .tc .vmem S1x1024x576 .f32) (harg14 : arg14.IsWhole) (arg15 : Memref sig .tc .vmem S1x128x576 .f32) (harg15 : arg15.IsWhole) (arg16 : Memref sig .tc .vmem S1x128x8 .f32) (harg16 : arg16.IsWhole) (hc0 : cond1_0 i)
    (x0 : Vec F S1x1024x32 .f32) (x1 : Vec F S1x8x32 .f32) (x2 : Vec F S1x1024x4 .i32) (x3 : Vec F S1x128x4 .i32) (x4 : Vec F S1x128x8 .f32) (x5 : Vec F S1x1x8 .i32) (x6 : Vec F S1x1x1 .i32) (x7 : Vec F S64x576 .f32) (x8 : Vec F S11x4 .f32) (x9 : Vec F S12x4 .f32) (x10 : Vec F S31x6 .f32) (x11 : Vec F S7x4 .f32) : Vec F S1x128x576 .f32 :=
  VO1_13.read (Elt F) (VO1_13.writes (Elt F) VO1_13.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1)

/-- The run's pieces for output 14 tile its block (1 store of `S1x128x8`, checked by the kernel's evaluation: Lib/Ring.lean `Piece.tiledL`, linear in the pieces, through a loop's `@[irreducible]` trip theorem too), so they cover it. -/
theorem cover1_A_14 (c : Dev nD) (i : grid1.Coords) (arg2 : Memref sig .tc .vmem S1x1024x32 .f32) (harg2 : arg2.IsWhole) (arg3 : Memref sig .tc .vmem S1x8x32 .f32) (harg3 : arg3.IsWhole) (arg4 : Memref sig .tc .vmem S1x1024x4 .i32) (harg4 : arg4.IsWhole) (arg5 : Memref sig .tc .vmem S1x128x4 .i32) (harg5 : arg5.IsWhole) (arg6 : Memref sig .tc .vmem S1x128x8 .f32) (harg6 : arg6.IsWhole) (arg7 : Memref sig .tc .vmem S1x1x8 .i32) (harg7 : arg7.IsWhole) (arg8 : Memref sig .tc .vmem S1x1x1 .i32) (harg8 : arg8.IsWhole) (arg9 : Memref sig .tc .vmem S64x576 .f32) (harg9 : arg9.IsWhole) (arg10 : Memref sig .tc .vmem S11x4 .f32) (harg10 : arg10.IsWhole) (arg11 : Memref sig .tc .vmem S12x4 .f32) (harg11 : arg11.IsWhole) (arg12 : Memref sig .tc .vmem S31x6 .f32) (harg12 : arg12.IsWhole) (arg13 : Memref sig .tc .vmem S7x4 .f32) (harg13 : arg13.IsWhole) (arg14 : Memref sig .tc .vmem S1x1024x576 .f32) (harg14 : arg14.IsWhole) (arg15 : Memref sig .tc .vmem S1x128x576 .f32) (harg15 : arg15.IsWhole) (arg16 : Memref sig .tc .vmem S1x128x8 .f32) (harg16 : arg16.IsWhole) (hc0 : cond1_0 i)
    (x0 : Vec F S1x1024x32 .f32) (x1 : Vec F S1x8x32 .f32) (x2 : Vec F S1x1024x4 .i32) (x3 : Vec F S1x128x4 .i32) (x4 : Vec F S1x128x8 .f32) (x5 : Vec F S1x1x8 .i32) (x6 : Vec F S1x1x1 .i32) (x7 : Vec F S64x576 .f32) (x8 : Vec F S11x4 .f32) (x9 : Vec F S12x4 .f32) (x10 : Vec F S31x6 .f32) (x11 : Vec F S7x4 .f32) (y : S1x128x8.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.2.1 S1x128x8.size (by sl_kernel_rfl) y

/-- What the run leaves in output 14's staging buffer: its pieces read back over junk. -/
def out1_A_14 (c : Dev nD) (i : grid1.Coords) (arg2 : Memref sig .tc .vmem S1x1024x32 .f32) (harg2 : arg2.IsWhole) (arg3 : Memref sig .tc .vmem S1x8x32 .f32) (harg3 : arg3.IsWhole) (arg4 : Memref sig .tc .vmem S1x1024x4 .i32) (harg4 : arg4.IsWhole) (arg5 : Memref sig .tc .vmem S1x128x4 .i32) (harg5 : arg5.IsWhole) (arg6 : Memref sig .tc .vmem S1x128x8 .f32) (harg6 : arg6.IsWhole) (arg7 : Memref sig .tc .vmem S1x1x8 .i32) (harg7 : arg7.IsWhole) (arg8 : Memref sig .tc .vmem S1x1x1 .i32) (harg8 : arg8.IsWhole) (arg9 : Memref sig .tc .vmem S64x576 .f32) (harg9 : arg9.IsWhole) (arg10 : Memref sig .tc .vmem S11x4 .f32) (harg10 : arg10.IsWhole) (arg11 : Memref sig .tc .vmem S12x4 .f32) (harg11 : arg11.IsWhole) (arg12 : Memref sig .tc .vmem S31x6 .f32) (harg12 : arg12.IsWhole) (arg13 : Memref sig .tc .vmem S7x4 .f32) (harg13 : arg13.IsWhole) (arg14 : Memref sig .tc .vmem S1x1024x576 .f32) (harg14 : arg14.IsWhole) (arg15 : Memref sig .tc .vmem S1x128x576 .f32) (harg15 : arg15.IsWhole) (arg16 : Memref sig .tc .vmem S1x128x8 .f32) (harg16 : arg16.IsWhole) (hc0 : cond1_0 i)
    (x0 : Vec F S1x1024x32 .f32) (x1 : Vec F S1x8x32 .f32) (x2 : Vec F S1x1024x4 .i32) (x3 : Vec F S1x128x4 .i32) (x4 : Vec F S1x128x8 .f32) (x5 : Vec F S1x1x8 .i32) (x6 : Vec F S1x1x1 .i32) (x7 : Vec F S64x576 .f32) (x8 : Vec F S11x4 .f32) (x9 : Vec F S12x4 .f32) (x10 : Vec F S31x6 .f32) (x11 : Vec F S7x4 .f32) : Vec F S1x128x8 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.2.1)

/-! ## What the outputs hold after each point -/

/-- What the outputs' staging buffers hold after the body at point `t` (as a tuple, in window order): the run's contents at
    the point's memrefs and input blocks. -/
def outsAt1 (c : Dev nD) (t : Fin cfg1.N) : Vec F S1x1024x576 .f32 × Vec F S1x128x576 .f32 × Vec F S1x128x8 .f32 :=
  (out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (hcond1_0 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (hcond1_0 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t), out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (hcond1_0 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t).1
    | ⟨13, _⟩ => (outsAt1 V c t).2.1
    | ⟨14, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = (outsAt1 V c t).1 := by dsimp only [dat1]
theorem after1_13 (c : Dev nD) (t : Fin cfg1.N) : (dat1 V c).after 13 t = (outsAt1 V c t).2.1 := by dsimp only [dat1]
theorem after1_14 (c : Dev nD) (t : Fin cfg1.N) : (dat1 V c).after 14 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 1200000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [show (dat1 V c).leavesExact 6 t = owns (c : Thread nD τ) (ms1_6 t) fullShare ((dat1 V c).after 6 t) from by
      unfold Dat.leavesExact; rw [liveAt1_6 t], after1_6]
  rw [show (dat1 V c).leavesExact 7 t = owns (c : Thread nD τ) (ms1_7 t) fullShare ((dat1 V c).after 7 t) from by
      unfold Dat.leavesExact; rw [liveAt1_7 t], after1_7]
  rw [show (dat1 V c).leavesExact 8 t = owns (c : Thread nD τ) (ms1_8 t) fullShare ((dat1 V c).after 8 t) from by
      unfold Dat.leavesExact; rw [liveAt1_8 t], after1_8]
  rw [show (dat1 V c).leavesExact 9 t = owns (c : Thread nD τ) (ms1_9 t) fullShare ((dat1 V c).after 9 t) from by
      unfold Dat.leavesExact; rw [liveAt1_9 t], after1_9]
  rw [show (dat1 V c).leavesExact 10 t = owns (c : Thread nD τ) (ms1_10 t) fullShare ((dat1 V c).after 10 t) from by
      unfold Dat.leavesExact; rw [liveAt1_10 t], after1_10]
  rw [show (dat1 V c).leavesExact 11 t = owns (c : Thread nD τ) (ms1_11 t) fullShare ((dat1 V c).after 11 t) from by
      unfold Dat.leavesExact; rw [liveAt1_11 t], after1_11]
  rw [show (dat1 V c).leavesExact 12 t = owns (c : Thread nD τ) (ms1_12 t) fullShare ((dat1 V c).after 12 t) from by
      unfold Dat.leavesExact; rw [liveAt1_12 t], after1_12]
  rw [show (dat1 V c).leavesExact 13 t = owns (c : Thread nD τ) (ms1_13 t) fullShare ((dat1 V c).after 13 t) from by
      unfold Dat.leavesExact; rw [liveAt1_13_A t (hcond1_0 t)], after1_13]
  rw [show (dat1 V c).leavesExact 14 t = owns (c : Thread nD τ) (ms1_14 t) fullShare ((dat1 V c).after 14 t) from by
      unfold Dat.leavesExact; rw [liveAt1_14_A t (hcond1_0 t)], after1_14]
  unfold outsAt1
  unfold out1_A_12 out1_A_13 out1_A_14; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun1_A c (grid1.coords t) _ _ _ _ _ _ _ _ _ _ _ _ _ _ _ _ _ _ _ _ _ _ _ _ _ _ _ _ _ _ (hcond1_0 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, ⟨%e12, H12⟩, ⟨%e13, H13⟩, ⟨%e14, H14⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover1_A_12 c _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover1_A_13 c _ _ _ _ _ _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

set_option maxHeartbeats 40000000 in
/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v1, main_call0_c, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_v11, main_call0_call0_c_0, main_call0_call0_v12, main_call0_call0_v13, main_call0_v2, main_call0_v3, main_call0_v4, main_call0_v5, main_call0_v6, main_call0_v7, main_call0_v8, main_call0_v9, main_call0_v10, main_call0_v11, main_call0_v12, main_call0_cst, main_call0_call1_v0, main_call0_call1_v1, main_call0_call1_v2, main_call0_v13, main_call0_v14, main_call0_c_0, main_call0_call2_v0, main_call0_v15, main_call0_v16, main_call0_v17, main_call0_v18, main_call0_v19, main_call0_c_1, main_call0_call3_v0, main_call0_v20, main_call0_v21, main_call0_v22, main_call0_v23, main_call0_v24, main_call0_c_2, main_call0_call4_v0, main_call0_v25, main_call0_v26, main_call0_v27, main_call0_v28, main_call0_c_3, main_call0_call5_v0, main_call0_v29, main_call0_v30, main_call0_v31, main_call0_v32, main_call0_v33, main_call0_v34, main_call0_v35, main_call0_v36, main_call0_cst_4, main_call0_v37, main_call0_v38, main_call0_v39, main_call0_v40]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v0_1]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every execution ends with each unscoped buffer at the last boundary's contents and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c =>
    ⟨(h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide)),
     (h.1 c _ (mem_uc main_arg5 (by decide))).trans (W4_args m ρ c main_arg5 (by decide)),
     (h.1 c _ (mem_uc main_arg6 (by decide))).trans (W4_args m ρ c main_arg6 (by decide)),
     (h.1 c _ (mem_uc main_arg7 (by decide))).trans (W4_args m ρ c main_arg7 (by decide)),
     (h.1 c _ (mem_uc main_arg8 (by decide))).trans (W4_args m ρ c main_arg8 (by decide)),
     (h.1 c _ (mem_uc main_arg9 (by decide))).trans (W4_args m ρ c main_arg9 (by decide)),
     (h.1 c _ (mem_uc main_arg10 (by decide))).trans (W4_args m ρ c main_arg10 (by decide))⟩, h.2⟩) (run m ρ)

end Cert.KernelIdeal.Gen

end
-- ==== Proof.Shared.Spec.lean ====
/-
  The statistics of a column and the three results, entry by entry, over the extended reals.
-/
module

public import Idealize.ShloMosaic.Lib.SortNet.Sorts
public import Idealize.ShloMosaic.Lib.Pointwise
public import Idealize.ShloMosaic.Lib.Pointwise.Select

@[expose] public section

noncomputable section

/-! ## The statistics, of one column -/

namespace Cert.Spec

open Idealize.ShloMosaic Idealize.ShloMosaic.SortNet

/-- A column in ascending order. -/
def ascending (v : Fin (2 ^ 10) → EReal) : Fin (2 ^ 10) → EReal := Network.apply (sortNet 10 false) v

/-- The median of a column in ascending order: half way between rows 511 and 512. -/
def medOf (s : Fin (2 ^ 10) → EReal) : EReal := Ideal.ofBits .f32 0x3F000000#32 * (s ⟨511, by decide⟩ + s ⟨512, by decide⟩)

/-- The range between the quartiles of a column in ascending order, plus the small constant. -/
def iqrOf (s : Fin (2 ^ 10) → EReal) : EReal :=
  ((Ideal.ofBits .f32 0x3F400000#32 * s ⟨767, by decide⟩ + Ideal.ofBits .f32 0x3E800000#32 * s ⟨768, by decide⟩)
    - (Ideal.ofBits .f32 0x3E800000#32 * s ⟨255, by decide⟩ + Ideal.ofBits .f32 0x3F400000#32 * s ⟨256, by decide⟩))
    + Ideal.ofBits .f32 0x3A83126F#32

/-- Indices with the same coordinates. -/
theorem at2 {n0 n1 : Nat} {a a' : Fin n0} {b b' : Fin n1} (ha : a.val = a'.val) (hb : b.val = b'.val) : ix2 a b = ix2 a' b' :=
  (ix2_inj ..).mpr ⟨Fin.ext ha, Fin.ext hb⟩
theorem at3 {n0 n1 n2 : Nat} {a a' : Fin n0} {b b' : Fin n1} {c c' : Fin n2} (ha : a.val = a'.val) (hb : b.val = b'.val)
    (hc : c.val = c'.val) : ix3 a b c = ix3 a' b' c' :=
  (ix3_inj ..).mpr ⟨Fin.ext ha, Fin.ext hb, Fin.ext hc⟩

/-! ## The results, entry by entry -/

/-- A channel number, below 32. -/
def chan (x : BitVec 32) : Fin 32 := ⟨x.toNat % 32, Nat.mod_lt _ (by decide)⟩

/-- A time feature, below 7. -/
def slot (x : BitVec 32) : Fin 7 := ⟨x.toNat % 7, Nat.mod_lt _ (by decide)⟩

/-- The years from `y` to the reference year `r`: none where `y` is later. -/
def years (r y : BitVec 32) : Fin 7 := ⟨(r.toNat - y.toNat) % 7, Nat.mod_lt _ (by decide)⟩

/-- Entry `e` of the embedding of a time: the tables of years, months, days and days of the week, side by side. -/
def embed (yt : FVec Ideal ⟨2, ![11, 4]⟩ .f32) (mt : FVec Ideal ⟨2, ![12, 4]⟩ .f32) (dt : FVec Ideal ⟨2, ![31, 6]⟩ .f32)
    (wt : FVec Ideal ⟨2, ![7, 4]⟩ .f32) (y m d w : Fin 7) (e : Fin 18) : EReal :=
  if h : e.val < 4 then yt (ix2 ⟨y.val, by omega⟩ ⟨e.val, h⟩)
  else if h : e.val < 8 then mt (ix2 ⟨m.val, by omega⟩ ⟨e.val - 4, by omega⟩)
  else if h : e.val < 14 then dt (ix2 ⟨d.val, by omega⟩ ⟨e.val - 8, by omega⟩)
  else wt (ix2 w ⟨e.val - 14, by omega⟩)

/-- The median and the range of channel `c` of batch `b`. -/
def med (hv : FVec Ideal ⟨3, ![64, 1024, 32]⟩ .f32) (b : Fin 64) (c : Fin 32) : EReal := medOf (ascending fun i => hv (ix3 b i c))
def iqr (hv : FVec Ideal ⟨3, ![64, 1024, 32]⟩ .f32) (b : Fin 64) (c : Fin 32) : EReal := iqrOf (ascending fun i => hv (ix3 b i c))

/-- The first result: the scaled history expanded, plus the embedding of its time. -/
def out1 (hv : FVec Ideal ⟨3, ![64, 1024, 32]⟩ .f32) (htf : IVec ⟨3, ![64, 1024, 4]⟩ 32) (yt : FVec Ideal ⟨2, ![11, 4]⟩ .f32)
    (mt : FVec Ideal ⟨2, ![12, 4]⟩ .f32) (dt : FVec Ideal ⟨2, ![31, 6]⟩ .f32) (wt : FVec Ideal ⟨2, ![7, 4]⟩ .f32)
    (W bias : FVec Ideal ⟨1, ![18]⟩ .f32) (b : Fin 64) (s : Fin 1024) (c : Fin 32) (e : Fin 18) : EReal :=
  (Ideal.div (hv (ix3 b s c) - med hv b c) (iqr hv b c) * W (ix1 e) + bias (ix1 e))
    + embed yt mt dt wt (years (htf (ix3 b 1023 0)) (htf (ix3 b s 0))) (slot (htf (ix3 b s 1))) (slot (htf (ix3 b s 2)))
        (slot (htf (ix3 b s 3))) e

/-- The second result: the embedding of a target's time. -/
def out2 (htf : IVec ⟨3, ![64, 1024, 4]⟩ 32) (ttf : IVec ⟨3, ![64, 128, 4]⟩ 32) (yt : FVec Ideal ⟨2, ![11, 4]⟩ .f32)
    (mt : FVec Ideal ⟨2, ![12, 4]⟩ .f32) (dt : FVec Ideal ⟨2, ![31, 6]⟩ .f32) (wt : FVec Ideal ⟨2, ![7, 4]⟩ .f32)
    (b : Fin 64) (p : Fin 128) (e : Fin 18) : EReal :=
  embed yt mt dt wt (years (htf (ix3 b 1023 0)) (ttf (ix3 b p 0))) (slot (ttf (ix3 b p 1))) (slot (ttf (ix3 b p 2)))
    (slot (ttf (ix3 b p 3))) e

/-- The third result: the target scaled by its channel's median and range. -/
def out3 (hv : FVec Ideal ⟨3, ![64, 1024, 32]⟩ .f32) (tv : FVec Ideal ⟨3, ![64, 128, 8]⟩ .f32) (tci : IVec ⟨2, ![64, 8]⟩ 32)
    (b : Fin 64) (p : Fin 128) (t : Fin 8) : EReal :=
  Ideal.div (tv (ix3 b p t) - med hv b (chan (tci (ix2 b t)))) (iqr hv b (chan (tci (ix2 b t))))

/-- What the precondition says of one word. -/
theorem slot_val {x : BitVec 32} (h : x.toNat < 7) : (slot x).val = x.toNat := Nat.mod_eq_of_lt h
theorem chan_val {x : BitVec 32} (h : x.toNat < 32) : (chan x).val = x.toNat := Nat.mod_eq_of_lt h
theorem years_val {r y : BitVec 32} (h : r.toNat < 7) : (years r y).val = r.toNat - y.toNat := Nat.mod_eq_of_lt (by omega)

end Cert.Spec

end
-- ==== Proof.KernelIdeal.Matrix.lean ====
/-
  The matrix the host prepares for the expanding kernel: the weights on a band, below it the first seven rows of every
  table of embeddings beside one another's columns, the bias, and three rows of zeros.
-/
module

public import proofs.«01_k».proof.Proof.KernelIdeal.Run
public import proofs.«01_k».proof.Proof.Shared.Spec
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-! ## The parts, and the host's operations that make them -/

/-- The column's number divided by 18, rounded down. -/
def groupOf : IVec S576 32 :=
  select (andi (cmpi .ne (signi (iotaInDim S576 32 0)) (broadcastInDim S576 ![] bcast_S_S576 (signi (id (constantI S_ 32 18#32)))))
      (cmpi .ne (Host.remsi (iotaInDim S576 32 0) (broadcastInDim S576 ![] bcast_S_S576 (id (constantI S_ 32 18#32))))
        (broadcastInDim S576 ![] bcast_S_S576 (constantI S_ 32 0#32))))
    (subi (Host.divsi (iotaInDim S576 32 0) (broadcastInDim S576 ![] bcast_S_S576 (id (constantI S_ 32 18#32))))
      (broadcastInDim S576 ![] bcast_S_S576 (constantI S_ 32 1#32)))
    (Host.divsi (iotaInDim S576 32 0) (broadcastInDim S576 ![] bcast_S_S576 (id (constantI S_ 32 18#32))))

/-- A vector of 18 repeated 32 times, as a row. -/
def repeated (w : FVec Ideal S18 .f32) : FVec Ideal S1x576 .f32 :=
  broadcastInDim S1x576 ![1] bcast_S576_S1x576_1
    (shapeCast S576 (broadcastInDim S32x18 ![0, 1] bcast_S1x18_S32x18_0_1 (shapeCast S1x18 w shapeCasts_S18_S1x18)) shapeCasts_S32x18_S576)

/-- The weights, each channel's in its own group of columns. -/
def band (w : FVec Ideal S18 .f32) : FVec Ideal S32x576 .f32 :=
  select
    (cmpi .eq (broadcastInDim S32x576 ![0, 1] bcast_S32x1_S32x576_0_1 (broadcastInDim S32x1 ![0] bcast_S32_S32x1_0 (iotaInDim S32 32 0)))
      (broadcastInDim S32x576 ![0, 1] bcast_S1x576_S32x576_0_1 (broadcastInDim S1x576 ![1] bcast_S576_S1x576_1 groupOf)))
    (broadcastInDim S32x576 ![0, 1] bcast_S1x576_S32x576_0_1 (repeated w))
    (broadcastInDim S32x576 ![] bcast_S_S32x576 (id (constant S_ .f32 0#32)))

/-- Seven rows of 18 repeated 32 times. -/
def tiled (p : FVec Ideal S7x18 .f32) : FVec Ideal S7x576 .f32 :=
  shapeCast S7x576 (broadcastInDim S1x7x32x18 ![0, 1, 2, 3] bcast_S1x7x1x18_S1x7x32x18_0_1_2_3 (shapeCast S1x7x1x18 p shapeCasts_S7x18_S1x7x1x18))
    shapeCasts_S1x7x32x18_S7x576

def nought : FVec Ideal S_ .f32 := sitofp .f32 (constantI S_ 32 0#32)

def yearRows (t : FVec Ideal S11x4 .f32) : FVec Ideal S7x18 .f32 :=
  pad S7x18 ![0, 0] ![0, 14] ![0, 0] (extractStridedSlice S7x4 ![0, 0] t slices_S11x4_S7x4_0_0) nought pads_S7x4_S7x18_000_0140 h_S_
def monthRows (t : FVec Ideal S12x4 .f32) : FVec Ideal S7x18 .f32 :=
  pad S7x18 ![0, 4] ![0, 10] ![0, 0] (extractStridedSlice S7x4 ![0, 0] t slices_S12x4_S7x4_0_0) nought pads_S7x4_S7x18_000_4100 h_S_
def dayRows (t : FVec Ideal S31x6 .f32) : FVec Ideal S7x18 .f32 :=
  pad S7x18 ![0, 8] ![0, 4] ![0, 0] (extractStridedSlice S7x6 ![0, 0] t slices_S31x6_S7x6_0_0) nought pads_S7x6_S7x18_000_840 h_S_
def weekRows (t : FVec Ideal S7x4 .f32) : FVec Ideal S7x18 .f32 :=
  pad S7x18 ![0, 14] ![0, 0] ![0, 0] t nought pads_S7x4_S7x18_000_1400 h_S_

variable (A : Valuation τ sig (Elt Ideal))

set_option maxHeartbeats 2000000

local notation "first67" => List.take 67 (hostOps1 (F := Ideal))

theorem rows_after (B : Valuation τ sig (Elt Ideal)) :
    StableHlo.after ((hostOps1 (F := Ideal)).drop 67) B (Proc.devRef .tc main_call0_v38) =
      concatenate S64x576 0 [⟨S32x576, B (Proc.devRef .tc main_call0_v13)⟩, ⟨S7x576, B (Proc.devRef .tc main_call0_v18)⟩, ⟨S7x576, B (Proc.devRef .tc main_call0_v23)⟩,
        ⟨S7x576, B (Proc.devRef .tc main_call0_v28)⟩, ⟨S7x576, B (Proc.devRef .tc main_call0_v32)⟩, ⟨S1x576, B (Proc.devRef .tc main_call0_v36)⟩, ⟨S3x576, B (Proc.devRef .tc main_call0_v37)⟩]
        concatenates_S32x576_S7x576_S7x576_S7x576_S7x576_S1x576_S3x576_S64x576_d0 := by
  simp only [hostOps1, List.drop, StableHlo.TRef.nary, StableHlo.TRef.reshape, StableHlo.TRef.unary, StableHlo.TRef.toBuf, StableHlo.TRef.ofBuf, cast_eq]
  after_results_simp
  rfl

theorem band_after : StableHlo.after first67 A (Proc.devRef .tc main_call0_v13) = band (A (Proc.devRef .tc main_arg9)) := by
  simp only [hostOps1, List.take, StableHlo.TRef.binary, StableHlo.TRef.nullary, StableHlo.TRef.reshape, StableHlo.TRef.ternary, StableHlo.TRef.unary, StableHlo.TRef.toBuf, StableHlo.TRef.ofBuf, cast_eq]
  after_results_simp
  rfl
theorem year_after : StableHlo.after first67 A (Proc.devRef .tc main_call0_v18) = tiled (yearRows (A (Proc.devRef .tc main_arg5))) := by
  simp only [hostOps1, List.take, StableHlo.TRef.binary, StableHlo.TRef.nullary, StableHlo.TRef.reshape, StableHlo.TRef.ternary, StableHlo.TRef.unary, StableHlo.TRef.toBuf, StableHlo.TRef.ofBuf, cast_eq]
  after_results_simp
  rfl
theorem month_after : StableHlo.after first67 A (Proc.devRef .tc main_call0_v23) = tiled (monthRows (A (Proc.devRef .tc main_arg6))) := by
  simp only [hostOps1, List.take, StableHlo.TRef.binary, StableHlo.TRef.nullary, StableHlo.TRef.reshape, StableHlo.TRef.ternary, StableHlo.TRef.unary, StableHlo.TRef.toBuf, StableHlo.TRef.ofBuf, cast_eq]
  after_results_simp
  rfl
theorem day_after : StableHlo.after first67 A (Proc.devRef .tc main_call0_v28) = tiled (dayRows (A (Proc.devRef .tc main_arg7))) := by
  simp only [hostOps1, List.take, StableHlo.TRef.binary, StableHlo.TRef.nullary, StableHlo.TRef.reshape, StableHlo.TRef.ternary, StableHlo.TRef.unary, StableHlo.TRef.toBuf, StableHlo.TRef.ofBuf, cast_eq]
  after_results_simp
  rfl
theorem week_after : StableHlo.after first67 A (Proc.devRef .tc main_call0_v32) = tiled (weekRows (A (Proc.devRef .tc main_arg8))) := by
  simp only [hostOps1, List.take, StableHlo.TRef.binary, StableHlo.TRef.nullary, StableHlo.TRef.reshape, StableHlo.TRef.ternary, StableHlo.TRef.unary, StableHlo.TRef.toBuf, StableHlo.TRef.ofBuf, cast_eq]
  after_results_simp
  rfl
theorem bias_after : StableHlo.after first67 A (Proc.devRef .tc main_call0_v36) = repeated (A (Proc.devRef .tc main_arg10)) := by
  simp only [hostOps1, List.take, StableHlo.TRef.binary, StableHlo.TRef.nullary, StableHlo.TRef.reshape, StableHlo.TRef.ternary, StableHlo.TRef.unary, StableHlo.TRef.toBuf, StableHlo.TRef.ofBuf, cast_eq]
  after_results_simp
  rfl
theorem zeros_after : StableHlo.after first67 A (Proc.devRef .tc main_call0_v37) = broadcastInDim S3x576 ![] bcast_S_S3x576 (constant (F := Ideal) S_ .f32 0#32) := by
  simp only [hostOps1, List.take, StableHlo.TRef.binary, StableHlo.TRef.nullary, StableHlo.TRef.reshape, StableHlo.TRef.ternary, StableHlo.TRef.unary, StableHlo.TRef.toBuf, StableHlo.TRef.ofBuf, cast_eq]
  after_results_simp

/-- The whole matrix. -/
def rows (yt : FVec Ideal S11x4 .f32) (mt : FVec Ideal S12x4 .f32) (dt : FVec Ideal S31x6 .f32) (wt : FVec Ideal S7x4 .f32)
    (w b : FVec Ideal S18 .f32) : FVec Ideal S64x576 .f32 :=
  concatenate S64x576 0 [⟨S32x576, band w⟩, ⟨S7x576, tiled (yearRows yt)⟩, ⟨S7x576, tiled (monthRows mt)⟩, ⟨S7x576, tiled (dayRows dt)⟩,
      ⟨S7x576, tiled (weekRows wt)⟩, ⟨S1x576, repeated b⟩, ⟨S3x576, broadcastInDim S3x576 ![] bcast_S_S3x576 (constant S_ .f32 0#32)⟩]
    concatenates_S32x576_S7x576_S7x576_S7x576_S7x576_S1x576_S3x576_S64x576_d0

theorem after_take (l : List (HloOp τ sig (Elt Ideal))) (n : Nat) : StableHlo.after l A = StableHlo.after (l.drop n) (StableHlo.after (l.take n) A) := by
  induction l generalizing n A with
  | nil => simp
  | cons o l ih => cases n with
    | zero => rfl
    | succ n => exact ih _ n

/-- What the host leaves for the expanding kernel: the matrix, the year of the last time, and the channels. -/
theorem rows_eq : StableHlo.after (hostOps1 (F := Ideal)) A (Proc.devRef .tc main_call0_v38) =
    rows (A (Proc.devRef .tc main_arg5)) (A (Proc.devRef .tc main_arg6)) (A (Proc.devRef .tc main_arg7)) (A (Proc.devRef .tc main_arg8))
      (A (Proc.devRef .tc main_arg9)) (A (Proc.devRef .tc main_arg10)) := by
  rw [after_take A _ 67, rows_after, band_after, year_after, month_after, day_after, week_after, bias_after, zeros_after]
  rfl
theorem year_eq : StableHlo.after (hostOps1 (F := Ideal)) A (Proc.devRef .tc main_call0_v39) =
    extractStridedSlice S64x1x1 ![0, 1023, 0] (A (Proc.devRef .tc main_arg3)) slices_S64x1024x4_S64x1x1_0_1023_0 := by
  simp only [hostOps1, StableHlo.TRef.nary, StableHlo.TRef.binary, StableHlo.TRef.nullary, StableHlo.TRef.reshape, StableHlo.TRef.ternary, StableHlo.TRef.unary, StableHlo.TRef.toBuf, StableHlo.TRef.ofBuf, cast_eq]
  after_results_simp
theorem channels_eq : StableHlo.after (hostOps1 (F := Ideal)) A (Proc.devRef .tc main_call0_v40) =
    shapeCast S64x1x8 (A (Proc.devRef .tc main_arg2)) shapeCasts_S64x8_S64x1x8 := by
  simp only [hostOps1, StableHlo.TRef.nary, StableHlo.TRef.binary, StableHlo.TRef.nullary, StableHlo.TRef.reshape, StableHlo.TRef.ternary, StableHlo.TRef.unary, StableHlo.TRef.toBuf, StableHlo.TRef.ofBuf, cast_eq]
  after_results_simp
  rfl

/-! ## Their entries -/

theorem group_word : ∀ k : Fin 576,
    Scalar.select
      (IntOp.andi
        (IntOp.cmpi .ne (if BitVec.ofNat 32 k.val = 0 then 0 else if (BitVec.ofNat 32 k.val).msb = true then -1 else 1 : BitVec 32)
          (if 18#32 = 0 then 0 else if (18#32).msb = true then -1 else 1 : BitVec 32))
        (IntOp.cmpi .ne (IntOp.remsi .host (BitVec.ofNat 32 k.val) 18#32) 0#32))
      (IntOp.subi (IntOp.divsi .host (BitVec.ofNat 32 k.val) 18#32) 1#32)
      (IntOp.divsi .host (BitVec.ofNat 32 k.val) 18#32) = BitVec.ofNat 32 (k.val / 18) := by
  decide +kernel

theorem groupOf_apply (k : Fin 576) : groupOf (ix1 k) = BitVec.ofNat 32 (k.val / 18) := by
  unfold groupOf
  pointwise
  exact group_word k

theorem repeated_apply (w : FVec Ideal S18 .f32) (k : Fin 576) : repeated w (ix2 0 k) = w (ix1 ⟨k.val % 18, Nat.mod_lt _ (by decide)⟩) := by
  unfold repeated
  pointwise

theorem tiled_apply (p : FVec Ideal S7x18 .f32) (r : Fin 7) (k : Fin 576) : tiled p (ix2 r k) = p (ix2 r ⟨k.val % 18, Nat.mod_lt _ (by decide)⟩) := by
  unfold tiled
  pointwise

theorem nought_val : (FloatOps.sitofp .f32 0#32 : Ideal .f32) = 0 := by
  show (((0#32).toInt : ℝ) : EReal) = 0
  simp

theorem yearRows_apply (t : FVec Ideal S11x4 .f32) (r : Fin 7) (e : Fin 18) :
    yearRows t (ix2 r e) = if h : e.val < 4 then t (ix2 ⟨r.val, by omega⟩ ⟨e.val, h⟩) else 0 := by
  unfold yearRows nought
  pointwise
  rw [nought_val]
theorem monthRows_apply (t : FVec Ideal S12x4 .f32) (r : Fin 7) (e : Fin 18) :
    monthRows t (ix2 r e) = if h : 4 ≤ e.val ∧ e.val - 4 < 4 then t (ix2 ⟨r.val, by omega⟩ ⟨e.val - 4, h.2⟩) else 0 := by
  unfold monthRows nought
  pointwise
  rw [nought_val]
theorem dayRows_apply (t : FVec Ideal S31x6 .f32) (r : Fin 7) (e : Fin 18) :
    dayRows t (ix2 r e) = if h : 8 ≤ e.val ∧ e.val - 8 < 6 then t (ix2 ⟨r.val, by omega⟩ ⟨e.val - 8, h.2⟩) else 0 := by
  unfold dayRows nought
  pointwise
  rw [nought_val]
theorem weekRows_apply (t : FVec Ideal S7x4 .f32) (r : Fin 7) (e : Fin 18) :
    weekRows t (ix2 r e) = if h : 14 ≤ e.val ∧ e.val - 14 < 4 then t (ix2 r ⟨e.val - 14, h.2⟩) else 0 := by
  unfold weekRows nought
  pointwise
  rw [nought_val]

/-- A table's row and the other tables' paddings, beside one another, are the embedding. -/
theorem embed_rows (yt : FVec Ideal S11x4 .f32) (mt : FVec Ideal S12x4 .f32) (dt : FVec Ideal S31x6 .f32) (wt : FVec Ideal S7x4 .f32)
    (y m d w : Fin 7) (e : Fin 18) :
    yearRows yt (ix2 y e) + monthRows mt (ix2 m e) + dayRows dt (ix2 d e) + weekRows wt (ix2 w e) = embed yt mt dt wt y m d w e := by
  rw [yearRows_apply, monthRows_apply, dayRows_apply, weekRows_apply]
  unfold embed
  by_cases h4 : e.val < 4
  · simp [h4, show ¬ 4 ≤ e.val by omega, show ¬ 8 ≤ e.val by omega, show ¬ 14 ≤ e.val by omega]
  by_cases h8 : e.val < 8
  · simp [h4, h8, show 4 ≤ e.val by omega, show e.val - 4 < 4 by omega, show ¬ 8 ≤ e.val by omega, show ¬ 14 ≤ e.val by omega]
  by_cases h14 : e.val < 14
  · simp [h4, h8, h14, show ¬ e.val - 4 < 4 by omega, show 8 ≤ e.val by omega, show e.val - 8 < 6 by omega, show ¬ 14 ≤ e.val by omega]
  · simp [h4, h8, h14, show ¬ e.val - 4 < 4 by omega, show ¬ e.val - 8 < 6 by omega, show 14 ≤ e.val by omega, show e.val - 14 < 4 by omega]

section Rows
variable (yt : FVec Ideal S11x4 .f32) (mt : FVec Ideal S12x4 .f32) (dt : FVec Ideal S31x6 .f32) (wt : FVec Ideal S7x4 .f32)
  (w b : FVec Ideal S18 .f32) (k : Fin 576)

theorem same_word : ∀ c g : Fin 32, IntOp.cmpi .eq (BitVec.ofNat 32 c.val) (BitVec.ofNat 32 g.val) = if c = g then 1#1 else 0#1 := by
  decide +kernel

theorem band_apply (c : Fin 32) : band w (ix2 c k) = if c = ⟨k.val / 18, by omega⟩ then w (ix1 ⟨k.val % 18, Nat.mod_lt _ (by decide)⟩) else 0 := by
  unfold band
  pointwise [groupOf_apply, repeated_apply]
  rw [show IntOp.cmpi .eq (BitVec.ofNat 32 c.val) (BitVec.ofNat 32 (k.val / 18)) = _ from same_word c ⟨k.val / 18, by omega⟩]
  split_ifs
  · rfl
  · exact Ideal.ofBits_zero_f32

theorem rows_weight (c : Fin 32) : rows yt mt dt wt w b (ix2 ⟨c.val, by omega⟩ k) = band w (ix2 c k) := by
  unfold rows
  pointwise (disch := omega)
theorem rows_year (j : Fin 7) : rows yt mt dt wt w b (ix2 ⟨32 + j.val, by omega⟩ k) = tiled (yearRows yt) (ix2 j k) := by
  unfold rows
  pointwise (disch := omega)
theorem rows_month (j : Fin 7) : rows yt mt dt wt w b (ix2 ⟨39 + j.val, by omega⟩ k) = tiled (monthRows mt) (ix2 j k) := by
  unfold rows
  pointwise (disch := omega)
  rw [dif_neg (by omega), dif_neg (by omega), dif_pos (by omega)]
  exact congrArg _ (at2 (by show 39 + j.val - 32 - 7 = j.val; omega) rfl)
theorem rows_day (j : Fin 7) : rows yt mt dt wt w b (ix2 ⟨46 + j.val, by omega⟩ k) = tiled (dayRows dt) (ix2 j k) := by
  unfold rows
  pointwise (disch := omega)
  rw [dif_neg (by omega), dif_neg (by omega), dif_neg (by omega), dif_pos (by omega)]
  exact congrArg _ (at2 (by show 46 + j.val - 32 - 7 - 7 = j.val; omega) rfl)
theorem rows_week (j : Fin 7) : rows yt mt dt wt w b (ix2 ⟨53 + j.val, by omega⟩ k) = tiled (weekRows wt) (ix2 j k) := by
  unfold rows
  pointwise (disch := omega)
  rw [dif_neg (by omega), dif_neg (by omega), dif_neg (by omega), dif_neg (by omega), dif_pos (by omega)]
  exact congrArg _ (at2 (by show 53 + j.val - 32 - 7 - 7 - 7 = j.val; omega) rfl)
theorem rows_bias : rows yt mt dt wt w b (ix2 ⟨60, by omega⟩ k) = repeated b (ix2 0 k) := by
  unfold rows
  pointwise (disch := omega)
theorem rows_last (j : Fin 3) : rows yt mt dt wt w b (ix2 ⟨61 + j.val, by omega⟩ k) = 0 := by
  unfold rows
  pointwise (disch := omega)
  rw [dif_neg (by omega), dif_neg (by omega), dif_neg (by omega), dif_neg (by omega), dif_neg (by omega), dif_neg (by omega)]
end Rows

theorem sum64 (f : Fin 64 → EReal) : ∑ x, f x =
    (∑ c : Fin 32, f ⟨c.val, by omega⟩) + (∑ j : Fin 7, f ⟨32 + j.val, by omega⟩) + (∑ j : Fin 7, f ⟨39 + j.val, by omega⟩)
      + (∑ j : Fin 7, f ⟨46 + j.val, by omega⟩) + (∑ j : Fin 7, f ⟨53 + j.val, by omega⟩) + f ⟨60, by omega⟩ + (∑ j : Fin 3, f ⟨61 + j.val, by omega⟩) := by
  refine (Fin.sum_univ_add (a := 61) (b := 3) f).trans ?_
  refine congrArg (· + _) ?_
  refine (Fin.sum_univ_add (a := 60) (b := 1) _).trans ?_
  rw [Fin.sum_univ_one]
  refine congrArg (· + _) ?_
  refine (Fin.sum_univ_add (a := 53) (b := 7) _).trans (congrArg (· + _) ?_)
  refine (Fin.sum_univ_add (a := 46) (b := 7) _).trans (congrArg (· + _) ?_)
  refine (Fin.sum_univ_add (a := 39) (b := 7) _).trans (congrArg (· + _) ?_)
  exact (Fin.sum_univ_add (a := 32) (b := 7) _)

/-! ## One row against the matrix -/

/-- The number, within its seven, of a place among the four sevens, as the kernel works it out. -/
def place (k : Nat) : BitVec 32 :=
  Scalar.select
    (IntOp.andi
      (IntOp.xori
        (IntOp.cmpi .slt (IntOp.remsi .vector (BitVec.ofNat 32 k) (Scalar.select (Scalar.cmpi .eq 7#32 0#32) 1#32 7#32)) 0#32)
        (Scalar.cmpi .slt (Scalar.select (Scalar.cmpi .eq 7#32 0#32) 1#32 7#32) 0#32))
      (IntOp.cmpi .ne (IntOp.remsi .vector (BitVec.ofNat 32 k) (Scalar.select (Scalar.cmpi .eq 7#32 0#32) 1#32 7#32)) 0#32))
    (IntOp.addi (IntOp.remsi .vector (BitVec.ofNat 32 k) (Scalar.select (Scalar.cmpi .eq 7#32 0#32) 1#32 7#32))
      (Scalar.select (Scalar.cmpi .eq 7#32 0#32) 1#32 7#32))
    (IntOp.remsi .vector (BitVec.ofNat 32 k) (Scalar.select (Scalar.cmpi .eq 7#32 0#32) 1#32 7#32))

theorem place_val : ∀ k : Fin 28, place k.val = BitVec.ofNat 32 (k.val % 7) := by decide +kernel

/-- Four words, each seven times. -/
def words (y m d w : BitVec 32) (k : Nat) : BitVec 32 := if k < 7 then y else if k - 7 < 7 then m else if k - 7 - 7 < 7 then d else w

/-- A row the matrix is multiplied by: the scaled history, a one in each of four sevens, a further entry, and zeros. -/
def line (hs : Fin 32 → EReal) (y m d w : BitVec 32) (one : EReal) (x : Fin 64) : EReal :=
  if h : x.val < 32 then hs ⟨x.val, h⟩
  else if x.val - 32 < 28 then Scalar.select (IntOp.cmpi .eq (words y m d w (x.val - 32)) (place (x.val - 32))) 1 0
  else if x.val - 32 - 28 < 1 then one else 0

/-- The one of a seven picks its entry. -/
theorem pick7 (n : Fin 7) (t : Fin 7 → EReal) :
    ∑ j : Fin 7, Scalar.select (IntOp.cmpi .eq (BitVec.ofNat 32 n.val) (BitVec.ofNat 32 j.val)) (1 : EReal) 0 * t j = t n := by
  have key : ∀ j : Fin 7, Scalar.select (IntOp.cmpi .eq (BitVec.ofNat 32 n.val) (BitVec.ofNat 32 j.val)) (1 : EReal) 0 = if n = j then 1 else 0 := fun j => by
    rw [show IntOp.cmpi .eq (BitVec.ofNat 32 n.val) (BitVec.ofNat 32 j.val) = _ from same_word ⟨n.val, by omega⟩ ⟨j.val, by omega⟩]
    by_cases h : n = j
    · subst h; simp; rfl
    · have h' : ¬ (⟨n.val, by omega⟩ : Fin 32) = ⟨j.val, by omega⟩ := fun e => h (Fin.ext (Fin.mk.inj e))
      rw [if_neg h', if_neg h]; rfl
  simp only [key, ite_mul, one_mul, zero_mul, Finset.sum_ite_eq, Finset.mem_univ, if_true]

section Line
variable (hs : Fin 32 → EReal) (y m d w : BitVec 32) (one : EReal)
theorem line_scaled (c : Fin 32) : line hs y m d w one ⟨c.val, by omega⟩ = hs c := by
  unfold line; rw [dif_pos c.isLt]
theorem line_seven (g : Fin 4) (j : Fin 7) (x : Fin 64) (hx : x.val = 32 + 7 * g.val + j.val) (v : BitVec 32)
    (hv : words y m d w (7 * g.val + j.val) = v) :
    line hs y m d w one x = Scalar.select (IntOp.cmpi .eq v (BitVec.ofNat 32 j.val)) 1 0 := by
  unfold line
  rw [dif_neg (by omega), if_pos (by omega), show x.val - 32 = 7 * g.val + j.val by omega, hv,
    show place (7 * g.val + j.val) = _ from place_val ⟨7 * g.val + j.val, by omega⟩]
  show Scalar.select (IntOp.cmpi .eq v (BitVec.ofNat 32 ((7 * g.val + j.val) % 7))) 1 0 = _
  rw [show (7 * g.val + j.val) % 7 = j.val by omega]
theorem line_one : line hs y m d w one ⟨60, by omega⟩ = one := by
  unfold line; rw [dif_neg (by decide), if_neg (by decide), if_pos (by decide)]
theorem line_last (j : Fin 3) : line hs y m d w one ⟨61 + j.val, by omega⟩ = 0 := by
  unfold line; rw [dif_neg (by simp; omega), if_neg (by simp; omega), if_neg (by simp; omega)]
end Line

/-- A row against the matrix: the channel's entry times its weight, the embedding, and the bias. -/
theorem line_rows (yt : FVec Ideal S11x4 .f32) (mt : FVec Ideal S12x4 .f32) (dt : FVec Ideal S31x6 .f32) (wt : FVec Ideal S7x4 .f32)
    (w b : FVec Ideal S18 .f32) (k : Fin 576) (hs : Fin 32 → EReal) (one : EReal) (ny nm nd nw : Fin 7) (y' m' d' w' : BitVec 32)
    (hy : y' = BitVec.ofNat 32 ny.val) (hm : m' = BitVec.ofNat 32 nm.val) (hd : d' = BitVec.ofNat 32 nd.val) (hw : w' = BitVec.ofNat 32 nw.val) :
    ∑ x, line hs y' m' d' w' one x * rows yt mt dt wt w b (ix2 x k) =
      hs ⟨k.val / 18, by omega⟩ * w (ix1 ⟨k.val % 18, Nat.mod_lt _ (by decide)⟩)
        + embed yt mt dt wt ny nm nd nw ⟨k.val % 18, Nat.mod_lt _ (by decide)⟩
        + one * b (ix1 ⟨k.val % 18, Nat.mod_lt _ (by decide)⟩) := by
  subst hy hm hd hw
  rw [sum64, ← embed_rows]
  have e0 : ∑ c : Fin 32, line hs (BitVec.ofNat 32 ny.val) (BitVec.ofNat 32 nm.val) (BitVec.ofNat 32 nd.val) (BitVec.ofNat 32 nw.val) one ⟨c.val, by omega⟩
      * rows yt mt dt wt w b (ix2 ⟨c.val, by omega⟩ k) = hs ⟨k.val / 18, by omega⟩ * w (ix1 ⟨k.val % 18, Nat.mod_lt _ (by decide)⟩) := by
    simp only [line_scaled, rows_weight, band_apply, mul_ite, mul_zero, Finset.sum_ite_eq', Finset.mem_univ, if_true]
  have e5 : line hs (BitVec.ofNat 32 ny.val) (BitVec.ofNat 32 nm.val) (BitVec.ofNat 32 nd.val) (BitVec.ofNat 32 nw.val) one ⟨60, by omega⟩
      * rows yt mt dt wt w b (ix2 ⟨60, by omega⟩ k) = one * b (ix1 ⟨k.val % 18, Nat.mod_lt _ (by decide)⟩) := by
    rw [line_one, rows_bias, repeated_apply]
  have e6 : ∑ j : Fin 3, line hs (BitVec.ofNat 32 ny.val) (BitVec.ofNat 32 nm.val) (BitVec.ofNat 32 nd.val) (BitVec.ofNat 32 nw.val) one ⟨61 + j.val, by omega⟩
      * rows yt mt dt wt w b (ix2 ⟨61 + j.val, by omega⟩ k) = 0 :=
    Finset.sum_eq_zero fun j _ => by rw [rows_last, mul_zero]
  have e1 := fun j : Fin 7 => line_seven hs (BitVec.ofNat 32 ny.val) (BitVec.ofNat 32 nm.val) (BitVec.ofNat 32 nd.val) (BitVec.ofNat 32 nw.val) one 0 j ⟨32 + j.val, by omega⟩ (by simp) _
    (by unfold words; rw [if_pos (by simp)])
  have e2 := fun j : Fin 7 => line_seven hs (BitVec.ofNat 32 ny.val) (BitVec.ofNat 32 nm.val) (BitVec.ofNat 32 nd.val) (BitVec.ofNat 32 nw.val) one 1 j ⟨39 + j.val, by omega⟩ (by simp) _
    (by unfold words; rw [if_neg (by simp), if_pos (by simp)])
  have e3 := fun j : Fin 7 => line_seven hs (BitVec.ofNat 32 ny.val) (BitVec.ofNat 32 nm.val) (BitVec.ofNat 32 nd.val) (BitVec.ofNat 32 nw.val) one 2 j ⟨46 + j.val, by omega⟩ (by simp) _
    (by unfold words; rw [if_neg (by simp; omega), if_neg (by simp; omega), if_pos (by simp; omega)])
  have e4 := fun j : Fin 7 => line_seven hs (BitVec.ofNat 32 ny.val) (BitVec.ofNat 32 nm.val) (BitVec.ofNat 32 nd.val) (BitVec.ofNat 32 nw.val) one 3 j ⟨53 + j.val, by omega⟩ (by simp) _
    (by unfold words; rw [if_neg (by simp; omega), if_neg (by simp; omega), if_neg (by simp; omega)])
  simp only [e0, e1, e2, e3, e4, e5, e6, rows_year, rows_month, rows_day, rows_week, pick7, tiled_apply, add_zero, add_assoc]

end Cert.KernelIdeal.Value
-- ==== Proof.Shared.Range.lean ====
/-
  What the precondition says: every channel number lies below 32 and every time feature below 7.
-/
module

public import proofs.«01_k».proof.Proof.Shared.Spec

@[expose] public section

noncomputable section

namespace Cert.Spec

open Idealize.ShloMosaic

structure InRange (tci : IVec ⟨2, ![64, 8]⟩ 32) (htf : IVec ⟨3, ![64, 1024, 4]⟩ 32) (ttf : IVec ⟨3, ![64, 128, 4]⟩ 32) : Prop where
  tci : ∀ b t, (tci (ix2 b t)).toNat < 32
  htf : ∀ b s k, (htf (ix3 b s k)).toNat < 7
  ttf : ∀ b p k, (ttf (ix3 b p k)).toNat < 7

/-- A small word is its number. -/
theorem eq_ofNat {x : BitVec 32} : x = BitVec.ofNat 32 x.toNat := by rw [BitVec.ofNat_toNat, BitVec.setWidth_eq]

/-- The difference of two years, between 0 and 10. -/
theorem years_clip {r y : BitVec 32} (hr : r.toNat < 7) (hy : y.toNat < 7) :
    (IntOp.minsi 10#32 (IntOp.maxsi 0#32 (IntOp.subi r y))).toNat = (years r y).val := by
  have key : ∀ i j : Fin 7, (IntOp.minsi 10#32 (IntOp.maxsi 0#32 (IntOp.subi (BitVec.ofNat 32 i.val) (BitVec.ofNat 32 j.val)))).toNat = i.val - j.val := by
    decide
  rw [years_val hr]
  conv_lhs => rw [eq_ofNat (x := r), eq_ofNat (x := y)]
  exact key ⟨_, hr⟩ ⟨_, hy⟩

/-- A word that is not negative is not wrapped around. -/
theorem wrap_eq {x : BitVec 32} (n : BitVec 32) (hx : x.toNat < 64) : Scalar.select (IntOp.cmpi .slt x 0#32) (IntOp.addi x n) x = x := by
  have : IntOp.cmpi .slt x 0#32 = 0#1 := by
    have key : ∀ i : Fin 64, IntOp.cmpi .slt (BitVec.ofNat 32 i.val) 0#32 = 0#1 := by decide
    rw [eq_ofNat (x := x)]
    exact key ⟨_, hx⟩
  rw [this]
  rfl

/-- A channel number lies between 0 and 31. -/
theorem channel_ok {x : BitVec 32} (hx : x.toNat < 32) : IntOp.andi (IntOp.cmpi .sge x 0#32) (IntOp.cmpi .sle x 31#32) = 1#1 := by
  have key : ∀ i : Fin 32, IntOp.andi (IntOp.cmpi .sge (BitVec.ofNat 32 i.val) 0#32) (IntOp.cmpi .sle (BitVec.ofNat 32 i.val) 31#32) = 1#1 := by decide
  rw [eq_ofNat (x := x)]
  exact key ⟨_, hx⟩

end Cert.Spec

end
-- ==== Proof.KernelIdeal.Lines.lean ====
/-
  What the expanding kernel stores, entry by entry.
-/
module

public import proofs.«01_k».proof.Proof.KernelIdeal.Matrix
public import proofs.«01_k».proof.Proof.Shared.Range

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

set_option maxHeartbeats 2000000

/-- The clipped number of years, as the kernel works it out. -/
def lag (r y : BitVec 32) : BitVec 32 := IntOp.minsi 10#32 (IntOp.maxsi 0#32 (IntOp.subi r y))

theorem times_apply (v0 : IVec S1x1x1 32) (v14 : IVec S1x1024x4 32) (s : Fin 1024) (k : Fin 28) :
    k1_pay66 (F := Ideal) v0 v14 (ix2 s k) = words (lag (v0 (ix3 0 0 0)) (v14 (ix3 0 s 0))) (v14 (ix3 0 s 1)) (v14 (ix3 0 s 2)) (v14 (ix3 0 s 3)) k.val := by
  unfold k1_pay66
  pointwise
  rfl

theorem scaled_apply (v2 v4 : FVec Ideal S1x1x32 .f32) (v8 : FVec Ideal S1x1024x32 .f32) (s : Fin 1024) (c : Fin 32) :
    k1_pay65 (F := Ideal) v2 v4 v8 (ix2 s c) = Ideal.div (v8 (ix3 0 s c) - v2 (ix3 0 0 c)) (v4 (ix3 0 0 c)) := by
  unfold k1_pay65
  unfold_payloads
  pointwise

theorem store1_apply (v6 : FVec Ideal S64x576 .f32) (v2 v4 : FVec Ideal S1x1x32 .f32) (v8 : FVec Ideal S1x1024x32 .f32)
    (v0 : IVec S1x1x1 32) (v14 : IVec S1x1024x4 32) (s : Fin 1024) (k : Fin 576) :
    k1_pay1 (F := Ideal) (k1_pay64 v6) (k1_pay65 v2 v4 v8) (k1_pay66 (F := Ideal) v0 v14) (iota .tc S1024x28 32 [1] iota_S1024x28_d1_w32) 7#32 (Scalar.cmpi .eq 7#32 0#32) (ix3 0 s k) =
      ∑ x, line (fun c => Ideal.div (v8 (ix3 0 s c) - v2 (ix3 0 0 c)) (v4 (ix3 0 0 c))) (lag (v0 (ix3 0 0 0)) (v14 (ix3 0 s 0))) (v14 (ix3 0 s 1)) (v14 (ix3 0 s 2)) (v14 (ix3 0 s 3)) 1 x
        * v6 (ix2 x k) := by
  unfold k1_pay1 k1_pay64
  pointwise [times_apply, scaled_apply]
  rfl

theorem store2_apply (v1 : BitVec 32) (v6 : FVec Ideal S64x576 .f32) (v14 : IVec S1x128x4 32) (s : Fin 128) (k : Fin 576) :
    k1_pay4 (F := Ideal) (k1_pay64 v6) (k1_pay3 v1 v14) (ix3 0 s k) =
      ∑ x, line (fun _ => 0) (lag v1 (v14 (ix3 0 s 0))) (v14 (ix3 0 s 1)) (v14 (ix3 0 s 2)) (v14 (ix3 0 s 3)) 0 x * v6 (ix2 x k) := by
  unfold k1_pay4 k1_pay64 k1_pay3
  pointwise
  refine Finset.sum_congr rfl fun x _ => congrArg (· * _) ?_
  unfold line
  by_cases h : x.val < 32
  · rw [dif_pos h, dif_pos h]
  rw [dif_neg h, dif_neg h, ite_self]
  by_cases h' : x.val - 32 < 28
  · rw [dif_pos h', if_pos h']; rfl
  · rw [dif_neg h', if_neg h']

end Cert.KernelIdeal.Value
-- ==== Proof.KernelIdeal.Pick.lean ====
/-
  The third store of the expanding kernel: the statistics of a target's channel, picked one channel after another.
-/
module

public import proofs.«01_k».proof.Proof.KernelIdeal.Lines

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-- The entry of the channel `x`, over the channels up to `n`: every other one contributes zero. -/
def picked (x : BitVec 32) (v : Fin 32 → EReal) : Nat → EReal
  | 0 => Scalar.select (IntOp.cmpi .eq x 0#32) (v 0) 0
  | n + 1 => picked x v n + Scalar.select (IntOp.cmpi .eq x (BitVec.ofNat 32 (n + 1))) (v ⟨(n + 1) % 32, Nat.mod_lt _ (by decide)⟩) 0

theorem step_val (c : Fin 32) (v : Fin 32 → EReal) (n : Nat) (hn : n < 32) :
    Scalar.select (IntOp.cmpi .eq (BitVec.ofNat 32 c.val) (BitVec.ofNat 32 n)) (v ⟨n % 32, Nat.mod_lt _ (by decide)⟩) 0 = if c.val = n then v c else 0 := by
  rw [show IntOp.cmpi .eq (BitVec.ofNat 32 c.val) (BitVec.ofNat 32 n) = _ from same_word c ⟨n, hn⟩]
  by_cases h : c.val = n
  · have e : c = ⟨n, hn⟩ := Fin.ext h
    have e' : (⟨n % 32, Nat.mod_lt _ (by decide)⟩ : Fin 32) = c := Fin.ext (by rw [h]; exact Nat.mod_eq_of_lt hn)
    rw [if_pos e, if_pos h, e']
    rfl
  · rw [if_neg fun e : c = ⟨n, hn⟩ => h (congrArg Fin.val e), if_neg h]
    rfl

theorem picked_val (c : Fin 32) (v : Fin 32 → EReal) (n : Nat) (hn : n < 32) : picked (BitVec.ofNat 32 c.val) v n = if c.val ≤ n then v c else 0 := by
  induction n with
  | zero => exact (step_val c v 0 (by decide)).trans (by simp)
  | succ n ih =>
    unfold picked
    rw [ih (by omega), step_val c v (n + 1) hn]
    by_cases h : c.val = n + 1
    · rw [if_neg (by omega), if_pos h, if_pos (by omega), zero_add]
    · rw [if_neg h, add_zero]
      by_cases h' : c.val ≤ n
      · rw [if_pos h', if_pos (by omega)]
      · rw [if_neg h', if_neg (by omega)]

theorem picked_all (c : Fin 32) (v : Fin 32 → EReal) : picked (BitVec.ofNat 32 c.val) v 31 = v c := by
  rw [picked_val c v 31 (by decide), if_pos (by omega)]

set_option maxHeartbeats 4000000
theorem store3_apply (x4 : FVec Ideal S1x128x8 .f32) (x5 : IVec S1x1x8 32) (v2 v4 : FVec Ideal S1x1x32 .f32) (p : Fin 128) (t : Fin 8) :
    k1_pay2 (k1_pay61 (k1_pay62 (F := Ideal) v2) (k1_pay63 (F := Ideal) v4) (k1_pay5 (F := Ideal) x5) (k1_pay57 (k1_pay63 (F := Ideal) v4) (k1_pay5 (F := Ideal) x5) (k1_pay52 (k1_pay63 (F := Ideal) v4) (k1_pay5 (F := Ideal) x5) (k1_pay44 (k1_pay63 (F := Ideal) v4) (k1_pay5 (F := Ideal) x5) (k1_pay37 (k1_pay63 (F := Ideal) v4) (k1_pay5 (F := Ideal) x5) (k1_pay29 (k1_pay63 (F := Ideal) v4) (k1_pay5 (F := Ideal) x5) (k1_pay24 (k1_pay63 (F := Ideal) v4) (k1_pay5 (F := Ideal) x5) (k1_pay16 (k1_pay63 (F := Ideal) v4) (k1_pay5 (F := Ideal) x5) (k1_pay9 (k1_pay63 (F := Ideal) v4) x5) (k1_pay10 x5)) (k1_pay17 (k1_pay5 (F := Ideal) x5)) (FloatOps.ofBits .f32 0#32 : Ideal .f32) k1_pay18) k1_pay25) (k1_pay30 (k1_pay5 (F := Ideal) x5)) (k1_pay32 (k1_pay63 (F := Ideal) v4))) (k1_pay38 (k1_pay5 (F := Ideal) x5))) (k1_pay45 (k1_pay5 (F := Ideal) x5)) (FloatOps.ofBits .f32 0#32 : Ideal .f32) k1_pay46) k1_pay53) (k1_pay58 (k1_pay5 (F := Ideal) x5)) (k1_pay59 (k1_pay62 (F := Ideal) v2) (k1_pay5 (F := Ideal) x5) (k1_pay51 (k1_pay62 (F := Ideal) v2) (k1_pay5 (F := Ideal) x5) (k1_pay43 (k1_pay62 (F := Ideal) v2) (k1_pay5 (F := Ideal) x5) (k1_pay36 (k1_pay62 (F := Ideal) v2) (k1_pay5 (F := Ideal) x5) (k1_pay31 (k1_pay62 (F := Ideal) v2) (k1_pay5 (F := Ideal) x5) (k1_pay23 (k1_pay62 (F := Ideal) v2) (k1_pay5 (F := Ideal) x5) (k1_pay15 (k1_pay62 (F := Ideal) v2) (k1_pay5 (F := Ideal) x5) (k1_pay8 (k1_pay62 (F := Ideal) v2) x5) (k1_pay10 x5) (k1_pay11 (k1_pay62 (F := Ideal) v2))) (k1_pay17 (k1_pay5 (F := Ideal) x5)) (FloatOps.ofBits .f32 0#32 : Ideal .f32) k1_pay18) k1_pay25)) (k1_pay38 (k1_pay5 (F := Ideal) x5)) (k1_pay39 (k1_pay62 (F := Ideal) v2))) (k1_pay45 (k1_pay5 (F := Ideal) x5)) (FloatOps.ofBits .f32 0#32 : Ideal .f32) k1_pay46) k1_pay53) (k1_pay60 (k1_pay63 (F := Ideal) v4)) x4) (ix3 0 p t) =
      Ideal.div (x4 (ix3 0 p t) - picked (x5 (ix3 0 0 t)) (fun c => v2 (ix3 0 0 c)) 31) (picked (x5 (ix3 0 0 t)) (fun c => v4 (ix3 0 0 c)) 31) := by
  unfold_payloads
  pointwise
  rfl

end Cert.KernelIdeal.Value
-- ==== Proof.Shared.Steps.lean ====
/-
  The stages of the statistics kernel, read at an index over the extended reals: each compares two rows of a chunk.
-/
module

public import proofs.«01_k».proof.Proof.Shared.Stages
public import Idealize.ShloMosaic.Lib.Pipeline.Value
public import Idealize.ShloMosaic.Lib.ValueIdx
public import Idealize.ShloMosaic.Lib.ValueLayout

@[expose] public section

noncomputable section

namespace Cert.Net

open Idealize.ShloMosaic Idealize.ShloMosaic.ValueIdx

variable {g d : Nat}

/-- The first run's row `j` of group `q` is the chunk's row `2dq + j`. -/
theorem firstRun_apply {F : FTy → Type} [FloatOps F] (e : Fits g d) (y : FVec F V .f32) (q : Fin g) (j : Fin d) (k : Fin 128)
    (r : Fin 128) (hr : r.val = q.val * (2 * d) + j.val) :
    firstRun g d e y (ix3 q j k) = y (ix2 r k) := by
  unfold firstRun
  refine (shapeCast_apply _ e.drop (ix3 q j k) (ix4 q (0 : Fin 1) j k) ?_).trans ?_
  · rw [Shape.rowMajor_val_four, Shape.rowMajor_val_three]
    show ((q.val * 1 + 0) * d + j.val) * 128 + k.val = (q.val * d + j.val) * 128 + k.val
    rw [Nat.mul_one, Nat.add_zero]
  refine (extractStridedSlice_apply _ _ e.first (ix4 q (0 : Fin 1) j k) (ix4 q (0 : Fin 2) j k) ?_).trans ?_
  · intro a
    match a with
    | ⟨0, _⟩ => exact (Nat.zero_add _).symm
    | ⟨1, _⟩ => rfl
    | ⟨2, _⟩ => exact (Nat.zero_add _).symm
    | ⟨3, _⟩ => exact (Nat.zero_add _).symm
  · refine shapeCast_apply _ e.split _ (ix2 r k) ?_
    rw [Shape.rowMajor_val_four, Shape.rowMajor_val_two]
    show r.val * 128 + k.val = ((q.val * 2 + 0) * d + j.val) * 128 + k.val
    rw [hr, Nat.add_zero, Nat.mul_assoc]

/-- The second run's row `j` of group `q` is the chunk's row `2dq + d + j`. -/
theorem secondRun_apply {F : FTy → Type} [FloatOps F] (e : Fits g d) (y : FVec F V .f32) (q : Fin g) (j : Fin d) (k : Fin 128)
    (r : Fin 128) (hr : r.val = q.val * (2 * d) + d + j.val) :
    secondRun g d e y (ix3 q j k) = y (ix2 r k) := by
  unfold secondRun
  refine (shapeCast_apply _ e.drop (ix3 q j k) (ix4 q (0 : Fin 1) j k) ?_).trans ?_
  · rw [Shape.rowMajor_val_four, Shape.rowMajor_val_three]
    show ((q.val * 1 + 0) * d + j.val) * 128 + k.val = (q.val * d + j.val) * 128 + k.val
    rw [Nat.mul_one, Nat.add_zero]
  refine (extractStridedSlice_apply _ _ e.second (ix4 q (0 : Fin 1) j k) (ix4 q (1 : Fin 2) j k) ?_).trans ?_
  · intro a
    match a with
    | ⟨0, _⟩ => exact (Nat.zero_add _).symm
    | ⟨1, _⟩ => rfl
    | ⟨2, _⟩ => exact (Nat.zero_add _).symm
    | ⟨3, _⟩ => exact (Nat.zero_add _).symm
  · refine shapeCast_apply _ e.split _ (ix2 r k) ?_
    rw [Shape.rowMajor_val_four, Shape.rowMajor_val_two]
    show r.val * 128 + k.val = ((q.val * 2 + 1) * d + j.val) * 128 + k.val
    rw [hr, Nat.add_mul (q.val * 2), Nat.one_mul, Nat.mul_assoc]

/-- Woven runs at a row of a first run. -/
theorem weave_first {F : FTy → Type} [FloatOps F] (e : Fits g d) (a b : FVec F (s3 g d) .f32) (q : Fin g) (j : Fin d) (k : Fin 128)
    (r : Fin 128) (hr : r.val = q.val * (2 * d) + j.val) :
    weave g d e a b (ix2 r k) = a (ix3 q j k) := by
  unfold weave
  refine (shapeCast_apply _ e.join (ix2 r k) (ix4 q (0 : Fin 2) j k) ?_).trans ?_
  · rw [Shape.rowMajor_val_four, Shape.rowMajor_val_two]
    show ((q.val * 2 + 0) * d + j.val) * 128 + k.val = r.val * 128 + k.val
    rw [hr, Nat.add_zero, Nat.mul_assoc]
  refine (concatenate_pair_apply_left (t := s4 g 2 d) (s₁ := s4 g 1 d) (s₂ := s4 g 1 d) 1 _ _ e.glue
    (ix4 q (0 : Fin 2) j k) rfl (ix4 q (0 : Fin 1) j k) ?_).trans ?_
  · intro b
    match b with
    | ⟨0, _⟩ => rfl
    | ⟨1, _⟩ => rfl
    | ⟨2, _⟩ => rfl
    | ⟨3, _⟩ => rfl
  · refine shapeCast_apply _ e.lift _ (ix3 q j k) ?_
    rw [Shape.rowMajor_val_four, Shape.rowMajor_val_three]
    show (q.val * d + j.val) * 128 + k.val = ((q.val * 1 + 0) * d + j.val) * 128 + k.val
    rw [Nat.mul_one, Nat.add_zero]

/-- Woven runs at a row of a second run. -/
theorem weave_second {F : FTy → Type} [FloatOps F] (e : Fits g d) (a b : FVec F (s3 g d) .f32) (q : Fin g) (j : Fin d) (k : Fin 128)
    (r : Fin 128) (hr : r.val = q.val * (2 * d) + d + j.val) :
    weave g d e a b (ix2 r k) = b (ix3 q j k) := by
  unfold weave
  refine (shapeCast_apply _ e.join (ix2 r k) (ix4 q (1 : Fin 2) j k) ?_).trans ?_
  · rw [Shape.rowMajor_val_four, Shape.rowMajor_val_two]
    show ((q.val * 2 + 1) * d + j.val) * 128 + k.val = r.val * 128 + k.val
    rw [hr, Nat.add_mul (q.val * 2), Nat.one_mul, Nat.mul_assoc]
  refine (concatenate_pair_apply_right (t := s4 g 2 d) (s₁ := s4 g 1 d) (s₂ := s4 g 1 d) 1 _ _ e.glue
    (ix4 q (1 : Fin 2) j k) rfl rfl (ix4 q (0 : Fin 1) j k) ?_ rfl).trans ?_
  · intro b hb
    match b with
    | ⟨0, _⟩ => rfl
    | ⟨1, _⟩ => exact absurd rfl hb
    | ⟨2, _⟩ => rfl
    | ⟨3, _⟩ => rfl
  · refine shapeCast_apply _ e.lift _ (ix3 q j k) ?_
    rw [Shape.rowMajor_val_four, Shape.rowMajor_val_three]
    show (q.val * d + j.val) * 128 + k.val = ((q.val * 1 + 0) * d + j.val) * 128 + k.val
    rw [Nat.mul_one, Nat.add_zero]

/-- The bit of a group's number that a stage reads. -/
theorem bit_word : ∀ (q : Fin 64) (sh : Fin 6),
    IntOp.cmpi .eq (IntOp.andi (IntOp.shrsi .vector (BitVec.ofNat 32 q.val) (BitVec.ofNat 32 sh.val)) 1#32) 1#32
      = if q.val / 2 ^ sh.val % 2 = 1 then 1#1 else 0#1 := by
  decide +kernel

/-- The direction word of group `q`, spread over its rows. -/
theorem turned_apply (e : Fits g d) (sh : Fin 6) (hg : g ≤ 64) (q : Fin g) (j : Fin d) (k : Fin 128) :
    broadcastTo (s3 g d) (shapeCast (sG g) (turned g d e (BitVec.ofNat 32 sh.val)) e.same) e.spread (ix3 q j k)
      = if q.val / 2 ^ sh.val % 2 = 1 then 1#1 else 0#1 := by
  rw [shapeCast_self]
  refine (broadcastTo_apply _ e.spread (ix3 q j k) (ix3 q (0 : Fin 1) (0 : Fin 1)) ?_).trans ?_
  · intro a
    match a with
    | ⟨0, _⟩ =>
      show q.val = if g = 1 then 0 else q.val
      split
      · have := q.isLt; omega
      · rfl
    | ⟨1, _⟩ => rfl
    | ⟨2, _⟩ => rfl
  · unfold turned
    show IntOp.cmpi .eq (IntOp.andi (IntOp.shrsi .vector (iota .tc (sG g) 32 [0] e.groups (ix3 q (0 : Fin 1) (0 : Fin 1)))
      (BitVec.ofNat 32 sh.val)) 1#32) 1#32 = _
    rw [iota_single_apply]
    have hq : q.val < 64 := Nat.lt_of_lt_of_le q.isLt hg
    exact bit_word ⟨q.val, hq⟩ sh

/-- A stage with directions by group, at both rows of a pair. -/
theorem stageBy_apply (e : Fits g d) (sh : Fin 6) (hg : g ≤ 64) (y : FVec Ideal V .f32) (q : Fin g) (j : Fin d) (k : Fin 128)
    (r r' : Fin 128) (hr : r.val = q.val * (2 * d) + j.val) (hr' : r'.val = q.val * (2 * d) + d + j.val) :
    stageBy g d e (BitVec.ofNat 32 sh.val) y (ix2 r k)
        = (if q.val / 2 ^ sh.val % 2 = 1 then max (y (ix2 r k)) (y (ix2 r' k)) else min (y (ix2 r k)) (y (ix2 r' k)))
      ∧ stageBy g d e (BitVec.ofNat 32 sh.val) y (ix2 r' k)
        = (if q.val / 2 ^ sh.val % 2 = 1 then min (y (ix2 r k)) (y (ix2 r' k)) else max (y (ix2 r k)) (y (ix2 r' k))) := by
  unfold stageBy
  rw [weave_first e _ _ q j k r hr, weave_second e _ _ q j k r' hr', select_apply, select_apply, turned_apply e sh hg,
    maximumf_apply, minimumf_apply, firstRun_apply e y q j k r hr, secondRun_apply e y q j k r' hr']
  split
  · exact ⟨rfl, rfl⟩
  · exact ⟨rfl, rfl⟩

/-- A stage of one direction, at both rows of a pair. -/
theorem stageTo_apply (e : Fits g d) (desc : Bool) (y : FVec Ideal V .f32) (q : Fin g) (j : Fin d) (k : Fin 128)
    (r r' : Fin 128) (hr : r.val = q.val * (2 * d) + j.val) (hr' : r'.val = q.val * (2 * d) + d + j.val) :
    stageTo g d e desc y (ix2 r k)
        = (if desc then max (y (ix2 r k)) (y (ix2 r' k)) else min (y (ix2 r k)) (y (ix2 r' k)))
      ∧ stageTo g d e desc y (ix2 r' k)
        = (if desc then min (y (ix2 r k)) (y (ix2 r' k)) else max (y (ix2 r k)) (y (ix2 r' k))) := by
  cases desc <;>
  · unfold stageTo
    dsimp only
    rw [weave_first e _ _ q j k r hr, weave_second e _ _ q j k r' hr', maximumf_apply, minimumf_apply,
      firstRun_apply e y q j k r hr, secondRun_apply e y q j k r' hr']
    exact ⟨rfl, rfl⟩

end Cert.Net

end
-- ==== Proof.Shared.Compare.lean ====
/-
  The stages of the bitonic sort of 1024 rows, within chunks and across chunks.
-/
module

public import proofs.«01_k».proof.Proof.Shared.Steps
public import Idealize.ShloMosaic.Lib.SortNet.Sorts

@[expose] public section

noncomputable section

namespace Cert.Net

open Idealize.ShloMosaic Idealize.ShloMosaic.ValueIdx Idealize.ShloMosaic.SortNet

/-- Column `k` of eight chunks, as 1024 rows. -/
def col (x : Fin 8 → FVec Ideal V .f32) (k : Fin 128) : Fin (2 ^ 10) → EReal := fun i =>
  x ⟨i.val / 128, by have : i.val < 1024 := i.isLt; omega⟩ (ix2 ⟨i.val % 128, by omega⟩ k)

/-- A row of a column, by its chunk and its row in the chunk. -/
theorem col_at (x : Fin 8 → FVec Ideal V .f32) (k : Fin 128) (i : Fin (2 ^ 10)) (c : Fin 8) (r : Fin 128)
    (h : i.val = 128 * c.val + r.val) : col x k i = x c (ix2 r k) := by
  unfold col
  have hc : (⟨i.val / 128, by have : i.val < 1024 := i.isLt; omega⟩ : Fin 8) = c := Fin.ext (by show i.val / 128 = c.val; omega)
  have hr : (⟨i.val % 128, by omega⟩ : Fin 128) = r := Fin.ext (by show i.val % 128 = r.val; omega)
  rw [hc, hr]

/-- The direction of the level that ends with blocks of `2 ^ (l + 1)` rows sorted. -/
def way (l : Nat) (i : Fin (2 ^ 10)) : Bool := decide (i.val &&& 2 ^ (l + 1) = 0) == false

theorem way_eq (l : Nat) (i : Fin (2 ^ 10)) : way l i = decide (i.val / 2 ^ (l + 1) % 2 = 1) := by
  have e := and_two_pow_eq_zero_iff_testBit i.val (l + 1)
  rw [Nat.testBit_eq_decide_div_mod_eq] at e
  unfold way
  by_cases h : i.val / 2 ^ (l + 1) % 2 = 1
  · rw [decide_eq_true h] at e ⊢
    rw [decide_eq_false (fun h' => Bool.noConfusion (e.mp h'))]
    rfl
  · rw [decide_eq_false h] at e ⊢
    rw [decide_eq_true (e.mpr rfl)]
    rfl

/-- Values that compare every pair of a stage are the stage's. -/
theorem eq_stage {s : Nat} (hs : s < 10) (w : Fin (2 ^ 10) → Bool) (u v : Fin (2 ^ 10) → EReal)
    (h : ∀ i i' : Fin (2 ^ 10), i.val / 2 ^ s % 2 = 0 → i'.val = i.val + 2 ^ s →
      u i = (if w i then max (v i) (v i') else min (v i) (v i')) ∧ u i' = (if w i then min (v i) (v i') else max (v i) (v i'))) :
    u = Network.apply (stage 10 s w) v := by
  have clear : ∀ i : Fin (2 ^ 10), i.val &&& 2 ^ s = 0 → i.val / 2 ^ s % 2 = 0 := fun i hi => by
    have := (and_two_pow_eq_zero_iff_testBit i.val s).mp hi
    rw [Nat.testBit_eq_decide_div_mod_eq] at this
    have := of_decide_eq_false this
    omega
  funext i
  by_cases hi : i.val &&& 2 ^ s = 0
  · rw [(apply_stage hs w v i hi).1]
    exact (h i _ (clear i hi) (partner_val_of_clear hs i hi)).1
  · have hi' := partner_and_of_set hs i hi
    have e := (apply_stage hs w v (partner 10 s i) hi').2
    rw [partner_partner hs] at e
    rw [e]
    have e2 := partner_val_of_clear hs (partner 10 s i) hi'
    rw [partner_partner hs] at e2
    exact (h (partner 10 s i) i (clear _ hi') e2).2

/-- A step within chunks is a stage, if at each pair of rows of each chunk it compares. -/
theorem inChunk {s : Nat} (hs : s < 7) (w : Fin (2 ^ 10) → Bool) (S : Fin 8 → FVec Ideal V .f32 → FVec Ideal V .f32)
    (x : Fin 8 → FVec Ideal V .f32) (k : Fin 128)
    (hS : ∀ (i : Fin (2 ^ 10)) (c : Fin 8) (r r' : Fin 128) (q j : Nat), i.val = 128 * c.val + r.val → j < 2 ^ s →
      r.val = q * (2 * 2 ^ s) + j → r'.val = q * (2 * 2 ^ s) + 2 ^ s + j →
      S c (x c) (ix2 r k) = (if w i then max (x c (ix2 r k)) (x c (ix2 r' k)) else min (x c (ix2 r k)) (x c (ix2 r' k)))
      ∧ S c (x c) (ix2 r' k) = (if w i then min (x c (ix2 r k)) (x c (ix2 r' k)) else max (x c (ix2 r k)) (x c (ix2 r' k)))) :
    col (fun c => S c (x c)) k = Network.apply (stage 10 s w) (col x k) := by
  refine eq_stage (by omega) w _ _ fun i i' hi hi' => ?_
  have hi10 : i.val < 1024 := i.isLt
  have key : i.val % 128 + 2 ^ s < 128 ∧ i.val % 128 % 2 ^ s < 2 ^ s
      ∧ i.val % 128 = i.val % 128 / (2 * 2 ^ s) * (2 * 2 ^ s) + i.val % 128 % 2 ^ s := by
    interval_cases s <;> simp only [Nat.reducePow, Nat.reduceMul] at hi ⊢ <;> omega
  obtain ⟨h1, h2, h3⟩ := key
  have hr : (⟨i.val % 128, by omega⟩ : Fin 128).val = i.val % 128 := rfl
  have hc : i.val = 128 * (⟨i.val / 128, by omega⟩ : Fin 8).val + (⟨i.val % 128, by omega⟩ : Fin 128).val := by
    show i.val = 128 * (i.val / 128) + i.val % 128
    omega
  have hc' : i'.val = 128 * (⟨i.val / 128, by omega⟩ : Fin 8).val + (⟨i.val % 128 + 2 ^ s, h1⟩ : Fin 128).val := by
    show i'.val = 128 * (i.val / 128) + (i.val % 128 + 2 ^ s)
    omega
  rw [col_at x k i _ _ hc, col_at x k i' _ _ hc', col_at _ k i _ _ hc, col_at _ k i' _ _ hc']
  exact hS i _ _ _ _ _ hc h2 h3 (by show i.val % 128 + 2 ^ s = _; omega)

/-- A stage with directions by group is the network's. -/
theorem byAct {g d : Nat} (e : Fits g d) (s sh l : Nat) (hd : d = 2 ^ s) (hg : g * (2 * d) = 128) (hl : l = s + sh) (hl6 : l < 6)
    (x : Fin 8 → FVec Ideal V .f32) (k : Fin 128) :
    col (fun c => stageBy g d e (BitVec.ofNat 32 sh) (x c)) k = Network.apply (stage 10 s (way l)) (col x k) := by
  subst hd hl
  refine inChunk (by omega) _ (fun c y => stageBy g (2 ^ s) e (BitVec.ofNat 32 sh) y) x k fun i c r r' q j hi hj hr hr' => ?_
  have hd : 0 < 2 ^ s := Nat.two_pow_pos s
  have hq : q < g := by
    have h1 : q * (2 * 2 ^ s) < g * (2 * 2 ^ s) := by have := r.isLt; omega
    exact Nat.lt_of_mul_lt_mul_right h1
  have hg64 : g ≤ 64 := by
    have : g * 2 ≤ g * (2 * 2 ^ s) := Nat.mul_le_mul_left g (by omega)
    omega
  have hw : way (s + sh) i = decide (q / 2 ^ sh % 2 = 1) := by
    rw [way_eq]
    refine decide_eq_decide.mpr ?_
    have hr128 := r.isLt
    rw [hi, hr] at *
    have hs6 : s < 6 := by omega
    have hsh6 : sh < 6 := by omega
    interval_cases s <;> interval_cases sh <;> first
      | omega
      | (simp only [Nat.reducePow, Nat.reduceMul, Nat.reduceAdd] at *; omega)
  have := stageBy_apply e ⟨sh, by omega⟩ hg64 (x c) ⟨q, hq⟩ ⟨j, hj⟩ k r r' hr hr'
  simp only [hw, decide_eq_true_eq]
  exact this

/-- A stage of one direction in each chunk is the network's, if the directions are the level's. -/
theorem toAct {g d : Nat} (e : Fits g d) (s l : Nat) (hd : d = 2 ^ s) (hs : s < 7) (hg : g * (2 * d) = 128) (hl : 6 ≤ l) (hl9 : l < 10)
    (desc : Fin 8 → Bool) (hdesc : ∀ c, desc c = decide (c.val / 2 ^ (l - 6) % 2 = 1))
    (x : Fin 8 → FVec Ideal V .f32) (k : Fin 128) :
    col (fun c => stageTo g d e (desc c) (x c)) k = Network.apply (stage 10 s (way l)) (col x k) := by
  subst hd
  refine inChunk hs _ (fun c y => stageTo g (2 ^ s) e (desc c) y) x k fun i c r r' q j hi hj hr hr' => ?_
  have hq : q < g := by
    have h1 : q * (2 * 2 ^ s) < g * (2 * 2 ^ s) := by have := r.isLt; omega
    exact Nat.lt_of_mul_lt_mul_right h1
  have hw : way l i = desc c := by
    rw [way_eq, hdesc]
    refine decide_eq_decide.mpr ?_
    have hr128 := r.isLt
    rw [hi]
    interval_cases l <;> simp only [Nat.reducePow, Nat.reduceAdd, Nat.reduceSub] <;> omega
  rw [hw]
  exact stageTo_apply e (desc c) (x c) ⟨q, hq⟩ ⟨j, hj⟩ k r r' hr hr'

/-- A step across chunks is the network's stage, if at each pair of chunks it compares. -/
theorem crossAct {s l : Nat} (hs : 7 ≤ s) (hs10 : s < 10) (hl : 6 ≤ l) (hl9 : l < 10)
    (T : (Fin 8 → FVec Ideal V .f32) → Fin 8 → FVec Ideal V .f32) (x : Fin 8 → FVec Ideal V .f32) (k : Fin 128)
    (hT : ∀ c c' : Fin 8, c.val / 2 ^ (s - 7) % 2 = 0 → c'.val = c.val + 2 ^ (s - 7) →
      T x c = (bif decide (c.val / 2 ^ (l - 6) % 2 = 1) then maximumf (x c) (x c') else minimumf (x c) (x c'))
      ∧ T x c' = (bif decide (c.val / 2 ^ (l - 6) % 2 = 1) then minimumf (x c) (x c') else maximumf (x c) (x c'))) :
    col (T x) k = Network.apply (stage 10 s (way l)) (col x k) := by
  refine eq_stage hs10 _ _ _ fun i i' hi hi' => ?_
  have hi10 : i.val < 1024 := i.isLt
  have hi10' : i'.val < 1024 := i'.isLt
  have key : i.val / 128 / 2 ^ (s - 7) % 2 = 0 ∧ i'.val / 128 = i.val / 128 + 2 ^ (s - 7) ∧ i'.val % 128 = i.val % 128 := by
    interval_cases s <;> simp only [Nat.reducePow, Nat.reduceSub] at hi hi' ⊢ <;> omega
  obtain ⟨h1, h2, h3⟩ := key
  have hc : i.val = 128 * (⟨i.val / 128, by omega⟩ : Fin 8).val + (⟨i.val % 128, by omega⟩ : Fin 128).val := by
    show i.val = 128 * (i.val / 128) + i.val % 128
    omega
  have hc' : i'.val = 128 * (⟨i'.val / 128, by omega⟩ : Fin 8).val + (⟨i.val % 128, by omega⟩ : Fin 128).val := by
    show i'.val = 128 * (i'.val / 128) + i.val % 128
    omega
  have hw : way l i = decide ((⟨i.val / 128, by omega⟩ : Fin 8).val / 2 ^ (l - 6) % 2 = 1) := by
    rw [way_eq]
    refine decide_eq_decide.mpr ?_
    show _ ↔ i.val / 128 / 2 ^ (l - 6) % 2 = 1
    interval_cases l <;> simp only [Nat.reducePow, Nat.reduceAdd, Nat.reduceSub] <;> omega
  have h := hT ⟨i.val / 128, by omega⟩ ⟨i'.val / 128, by omega⟩ h1 h2
  rw [col_at x k i _ _ hc, col_at x k i' _ _ hc', col_at _ k i _ _ hc, col_at _ k i' _ _ hc', h.1, h.2, hw]
  cases decide ((⟨i.val / 128, by omega⟩ : Fin 8).val / 2 ^ (l - 6) % 2 = 1)
  · exact ⟨rfl, rfl⟩
  · exact ⟨rfl, rfl⟩

end Cert.Net

end
-- ==== Proof.Shared.Sorting.lean ====
/-
  The kernel's sorting network is the bitonic sort of 1024 rows, column by column.
-/
module

public import proofs.«01_k».proof.Proof.Shared.Compare

@[expose] public section

noncomputable section

namespace Cert.Net

open Idealize.ShloMosaic Idealize.ShloMosaic.ValueIdx Idealize.ShloMosaic.SortNet

/-- The stages of one level. -/
def lvl (l : Nat) : Network (2 ^ 10) := (List.range (l + 1)).reverse.flatMap fun s => stage 10 s (way l)

/-- The whole sort is its ten levels. -/
theorem sort_levels (v : Fin (2 ^ 10) → EReal) :
    Network.apply (sortNet 10 false) v = Network.apply (lvl 9) (Network.apply (lvl 8) (Network.apply (lvl 7) (Network.apply (lvl 6)
      (Network.apply (lvl 5) (Network.apply (lvl 4) (Network.apply (lvl 3) (Network.apply (lvl 2) (Network.apply (lvl 1)
        (Network.apply (lvl 0) v))))))))) := by
  have e : sortNet 10 false = (List.range 10).flatMap lvl := rfl
  rw [e, show List.range 10 = [0, 1, 2, 3, 4, 5, 6, 7, 8, 9] from rfl]
  repeat rw [List.flatMap_cons]
  rw [List.flatMap_nil, List.append_nil]
  repeat rw [Network.apply_append]

/-- A level, its last stage last. -/
theorem lvl_cons (S : List Nat) (s l : Nat) (v : Fin (2 ^ 10) → EReal) :
    Network.apply ((s :: S).flatMap fun s => stage 10 s (way l)) v
      = Network.apply (S.flatMap fun s => stage 10 s (way l)) (Network.apply (stage 10 s (way l)) v) := by
  rw [List.flatMap_cons, Network.apply_append]

/-- A stage of one direction after other steps. -/
theorem toThen {g d : Nat} (e : Fits g d) (s l : Nat) (hd : d = 2 ^ s) (hs : s < 7) (hg : g * (2 * d) = 128) (hl : 6 ≤ l) (hl9 : l < 10)
    (desc : Fin 8 → Bool) (hdesc : ∀ c, desc c = decide (c.val / 2 ^ (l - 6) % 2 = 1))
    (x : Fin 8 → FVec Ideal V .f32) (k : Fin 128) (u : Fin (2 ^ 10) → EReal) (h : col x k = u) :
    col (fun c => stageTo g d e (desc c) (x c)) k = Network.apply (stage 10 s (way l)) u :=
  h ▸ toAct e s l hd hs hg hl hl9 desc hdesc x k

/-- A stage by groups after other steps. -/
theorem byThen {g d : Nat} (e : Fits g d) (s sh l : Nat) (hd : d = 2 ^ s) (hg : g * (2 * d) = 128) (hl : l = s + sh) (hl6 : l < 6)
    (x : Fin 8 → FVec Ideal V .f32) (k : Fin 128) (u : Fin (2 ^ 10) → EReal) (h : col x k = u) :
    col (fun c => stageBy g d e (BitVec.ofNat 32 sh) (x c)) k = Network.apply (stage 10 s (way l)) u :=
  h ▸ byAct e s sh l hd hg hl hl6 x k

/-- The first six levels. -/
theorem levels_act (x : Fin 8 → FVec Ideal V .f32) (k : Fin 128) :
    col (fun c => levels (x c)) k = Network.apply (lvl 5) (Network.apply (lvl 4) (Network.apply (lvl 3) (Network.apply (lvl 2)
      (Network.apply (lvl 1) (Network.apply (lvl 0) (col x k)))))) := by
  unfold lvl
  rw [show (List.range (0 + 1)).reverse = [0] from rfl, show (List.range (1 + 1)).reverse = [1, 0] from rfl,
    show (List.range (2 + 1)).reverse = [2, 1, 0] from rfl, show (List.range (3 + 1)).reverse = [3, 2, 1, 0] from rfl,
    show (List.range (4 + 1)).reverse = [4, 3, 2, 1, 0] from rfl, show (List.range (5 + 1)).reverse = [5, 4, 3, 2, 1, 0] from rfl]
  repeat rw [lvl_cons]
  repeat rw [List.flatMap_nil]
  repeat rw [Network.apply_nil]
  unfold levels
  dsimp only
  refine byThen fits1 0 5 5 rfl rfl rfl (by decide) _ k _ ?_
  refine byThen fits2 1 4 5 rfl rfl rfl (by decide) _ k _ ?_
  refine byThen fits4 2 3 5 rfl rfl rfl (by decide) _ k _ ?_
  refine byThen fits8 3 2 5 rfl rfl rfl (by decide) _ k _ ?_
  refine byThen fits16 4 1 5 rfl rfl rfl (by decide) _ k _ ?_
  refine byThen fits32 5 0 5 rfl rfl rfl (by decide) _ k _ ?_
  refine byThen fits1 0 4 4 rfl rfl rfl (by decide) _ k _ ?_
  refine byThen fits2 1 3 4 rfl rfl rfl (by decide) _ k _ ?_
  refine byThen fits4 2 2 4 rfl rfl rfl (by decide) _ k _ ?_
  refine byThen fits8 3 1 4 rfl rfl rfl (by decide) _ k _ ?_
  refine byThen fits16 4 0 4 rfl rfl rfl (by decide) _ k _ ?_
  refine byThen fits1 0 3 3 rfl rfl rfl (by decide) _ k _ ?_
  refine byThen fits2 1 2 3 rfl rfl rfl (by decide) _ k _ ?_
  refine byThen fits4 2 1 3 rfl rfl rfl (by decide) _ k _ ?_
  refine byThen fits8 3 0 3 rfl rfl rfl (by decide) _ k _ ?_
  refine byThen fits1 0 2 2 rfl rfl rfl (by decide) _ k _ ?_
  refine byThen fits2 1 1 2 rfl rfl rfl (by decide) _ k _ ?_
  refine byThen fits4 2 0 2 rfl rfl rfl (by decide) _ k _ ?_
  refine byThen fits1 0 1 1 rfl rfl rfl (by decide) _ k _ ?_
  refine byThen fits2 1 0 1 rfl rfl rfl (by decide) _ k _ ?_
  refine byThen fits1 0 0 0 rfl rfl rfl (by decide) _ k _ ?_
  rfl

/-- The seven stages within chunks of a level above the sixth. -/
theorem merge_act (l : Nat) (hl : 6 ≤ l) (hl9 : l < 10) (desc : Fin 8 → Bool)
    (hdesc : ∀ c, desc c = decide (c.val / 2 ^ (l - 6) % 2 = 1)) (x : Fin 8 → FVec Ideal V .f32) (k : Fin 128) :
    col (fun c => mergeTo (desc c) (x c)) k
      = Network.apply ([6, 5, 4, 3, 2, 1, 0].flatMap fun s => stage 10 s (way l)) (col x k) := by
  unfold mergeTo
  rw [lvl_cons, lvl_cons, lvl_cons, lvl_cons, lvl_cons, lvl_cons, lvl_cons, List.flatMap_nil, Network.apply_nil]
  refine toThen fits1 0 l rfl (by decide) rfl hl hl9 desc hdesc _ k _ ?_
  refine toThen fits2 1 l rfl (by decide) rfl hl hl9 desc hdesc _ k _ ?_
  refine toThen fits4 2 l rfl (by decide) rfl hl hl9 desc hdesc _ k _ ?_
  refine toThen fits8 3 l rfl (by decide) rfl hl hl9 desc hdesc _ k _ ?_
  refine toThen fits16 4 l rfl (by decide) rfl hl hl9 desc hdesc _ k _ ?_
  refine toThen fits32 5 l rfl (by decide) rfl hl hl9 desc hdesc _ k _ ?_
  refine toThen fits64 6 l rfl (by decide) rfl hl hl9 desc hdesc _ k _ ?_
  rfl

/-- The directions of the chunks at levels 6 to 9. -/
def dir (l : Nat) (c : Fin 8) : Bool := decide (c.val / 2 ^ (l - 6) % 2 = 1)

theorem sorted8_eq (x : Fin 8 → FVec Ideal V .f32) : sorted8 x = fun c => mergeTo (dir 6 c) (levels (x c)) := by
  funext c; fin_cases c <;> rfl
theorem merge8_eq (x : Fin 8 → FVec Ideal V .f32) : merge8 x = fun c => mergeTo (dir 7 c) (x c) := by
  funext c; fin_cases c <;> rfl
theorem merge9_eq (x : Fin 8 → FVec Ideal V .f32) : merge9 x = fun c => mergeTo (dir 8 c) (x c) := by
  funext c; fin_cases c <;> rfl
theorem merge10_eq (x : Fin 8 → FVec Ideal V .f32) : merge10 x = fun c => mergeTo (dir 9 c) (x c) := by
  funext c; fin_cases c <;> rfl

theorem cross8_act (x : Fin 8 → FVec Ideal V .f32) (k : Fin 128) :
    col (cross8 x) k = Network.apply (stage 10 7 (way 7)) (col x k) := by
  refine crossAct (by decide) (by decide) (by decide) (by decide) cross8 x k fun c c' h h' => ?_
  fin_cases c <;> first
    | exact absurd h (by decide)
    | (obtain rfl := Fin.ext (b := ⟨_, by decide⟩) h'; exact ⟨rfl, rfl⟩)
theorem cross9two_act (x : Fin 8 → FVec Ideal V .f32) (k : Fin 128) :
    col (cross9two x) k = Network.apply (stage 10 8 (way 8)) (col x k) := by
  refine crossAct (by decide) (by decide) (by decide) (by decide) cross9two x k fun c c' h h' => ?_
  fin_cases c <;> first
    | exact absurd h (by decide)
    | (obtain rfl := Fin.ext (b := ⟨_, by decide⟩) h'; exact ⟨rfl, rfl⟩)
theorem cross9one_act (x : Fin 8 → FVec Ideal V .f32) (k : Fin 128) :
    col (cross9one x) k = Network.apply (stage 10 7 (way 8)) (col x k) := by
  refine crossAct (by decide) (by decide) (by decide) (by decide) cross9one x k fun c c' h h' => ?_
  fin_cases c <;> first
    | exact absurd h (by decide)
    | (obtain rfl := Fin.ext (b := ⟨_, by decide⟩) h'; exact ⟨rfl, rfl⟩)
theorem cross10four_act (x : Fin 8 → FVec Ideal V .f32) (k : Fin 128) :
    col (cross10four x) k = Network.apply (stage 10 9 (way 9)) (col x k) := by
  refine crossAct (by decide) (by decide) (by decide) (by decide) cross10four x k fun c c' h h' => ?_
  fin_cases c <;> first
    | exact absurd h (by decide)
    | (obtain rfl := Fin.ext (b := ⟨_, by decide⟩) h'; exact ⟨rfl, rfl⟩)
theorem cross10two_act (x : Fin 8 → FVec Ideal V .f32) (k : Fin 128) :
    col (cross10two x) k = Network.apply (stage 10 8 (way 9)) (col x k) := by
  refine crossAct (by decide) (by decide) (by decide) (by decide) cross10two x k fun c c' h h' => ?_
  fin_cases c <;> first
    | exact absurd h (by decide)
    | (obtain rfl := Fin.ext (b := ⟨_, by decide⟩) h'; exact ⟨rfl, rfl⟩)
theorem cross10one_act (x : Fin 8 → FVec Ideal V .f32) (k : Fin 128) :
    col (cross10one x) k = Network.apply (stage 10 7 (way 9)) (col x k) := by
  refine crossAct (by decide) (by decide) (by decide) (by decide) cross10one x k fun c c' h h' => ?_
  fin_cases c <;> first
    | exact absurd h (by decide)
    | (obtain rfl := Fin.ext (b := ⟨_, by decide⟩) h'; exact ⟨rfl, rfl⟩)

/-- The kernel's network on each column is the bitonic sort of its 1024 rows. -/
theorem network_col (x : Fin 8 → FVec Ideal V .f32) (k : Fin 128) :
    col (network x) k = Network.apply (sortNet 10 false) (col x k) := by
  rw [sort_levels]
  unfold network
  rw [merge10_eq, merge_act 9 (by decide) (by decide) (dir 9) (fun _ => rfl), cross10one_act, cross10two_act, cross10four_act,
    merge9_eq, merge_act 8 (by decide) (by decide) (dir 8) (fun _ => rfl), cross9one_act, cross9two_act,
    merge8_eq, merge_act 7 (by decide) (by decide) (dir 7) (fun _ => rfl), cross8_act,
    sorted8_eq, merge_act 6 (by decide) (by decide) (dir 6) (fun _ => rfl), levels_act]
  have e9 : ∀ v, Network.apply (lvl 9) v = Network.apply ([6, 5, 4, 3, 2, 1, 0].flatMap fun s => stage 10 s (way 9))
      (Network.apply (stage 10 7 (way 9)) (Network.apply (stage 10 8 (way 9)) (Network.apply (stage 10 9 (way 9)) v))) := fun v => by
    unfold lvl
    rw [show (List.range (9 + 1)).reverse = [9, 8, 7, 6, 5, 4, 3, 2, 1, 0] from rfl, lvl_cons, lvl_cons, lvl_cons]
  have e8 : ∀ v, Network.apply (lvl 8) v = Network.apply ([6, 5, 4, 3, 2, 1, 0].flatMap fun s => stage 10 s (way 8))
      (Network.apply (stage 10 7 (way 8)) (Network.apply (stage 10 8 (way 8)) v)) := fun v => by
    unfold lvl
    rw [show (List.range (8 + 1)).reverse = [8, 7, 6, 5, 4, 3, 2, 1, 0] from rfl, lvl_cons, lvl_cons]
  have e7 : ∀ v, Network.apply (lvl 7) v = Network.apply ([6, 5, 4, 3, 2, 1, 0].flatMap fun s => stage 10 s (way 7))
      (Network.apply (stage 10 7 (way 7)) v) := fun v => by
    unfold lvl
    rw [show (List.range (7 + 1)).reverse = [7, 6, 5, 4, 3, 2, 1, 0] from rfl, lvl_cons]
  rw [e9, e8, e7]
  rfl

/-- The column after the network ascends. -/
theorem network_monotone (x : Fin 8 → FVec Ideal V .f32) (k : Fin 128) : Monotone (col (network x) k) := by
  rw [network_col]; exact sortNet_apply_monotone 10 _

/-- The column after the network is the column before, rearranged. -/
theorem network_perm (x : Fin 8 → FVec Ideal V .f32) (k : Fin 128) :
    ∃ σ : Equiv.Perm (Fin (2 ^ 10)), col (network x) k = col x k ∘ σ := by
  rw [network_col]; exact Network.exists_perm _ _

end Cert.Net

end
-- ==== Proof.Shared.Block.lean ====
/-
  What the statistics kernel leaves for each column of a block: the median and the range of the column sorted.
-/
module

public import proofs.«01_k».proof.Proof.Shared.Sorting
public import proofs.«01_k».proof.Proof.Shared.Spec
public import Idealize.ShloMosaic.Lib.Pointwise.IndexBridge

@[expose] public section

noncomputable section

namespace Cert.Net

open Idealize.ShloMosaic Cert.Spec

/-- Column `32 b + c` of the four batches side by side is channel `c` of batch `b`. -/
theorem wide_apply (x : FVec Ideal Blk .f32) (i : Fin 1024) (k : Fin 128) :
    wide x (ix2 i k) = x (ix3 ⟨k.val / 32, by omega⟩ i ⟨k.val % 32, by omega⟩) := by
  unfold wide
  pointwise
  have hk := k.isLt
  split
  · exact congrArg x (at3 (by show 0 = k.val / 32; omega) rfl (by show k.val = k.val % 32; omega))
  split
  · exact congrArg x (at3 (by show 1 = k.val / 32; omega) rfl (by show k.val - 32 = k.val % 32; omega))
  split
  · exact congrArg x (at3 (by show 2 = k.val / 32; omega) rfl (by show k.val - 32 - 32 = k.val % 32; omega))
  · exact congrArg x (at3 (by show 3 = k.val / 32; omega) rfl (by show k.val - 32 - 32 - 32 = k.val % 32; omega))

/-- Row `r` of chunk `c` is row `128 c + r`. -/
theorem chunks_apply (x : FVec Ideal Blk .f32) (c : Fin 8) (r k : Fin 128) :
    chunks x c (ix2 r k) = wide x (ix2 ⟨128 * c.val + r.val, by omega⟩ k) := by
  unfold chunks
  fin_cases c <;> pointwise

theorem col_chunks (x : FVec Ideal Blk .f32) (k : Fin 128) :
    col (chunks x) k = fun i => x (ix3 ⟨k.val / 32, by omega⟩ i ⟨k.val % 32, by omega⟩) := by
  funext i
  unfold col
  rw [← ix2_eq_valueIdx, chunks_apply, wide_apply]
  refine congrArg x (congrArg (fun j => ix3 _ j _) (Fin.ext ?_))
  show 128 * (i.val / 128) + i.val % 128 = i.val
  omega

theorem sorted_chunks (x : FVec Ideal Blk .f32) (k : Fin 128) :
    (ascending fun i => x (ix3 (⟨k.val / 32, by omega⟩ : Fin 4) i (⟨k.val % 32, by omega⟩ : Fin 32))) = col (network (chunks x)) k :=
  (congrArg ascending (col_chunks x k).symm).trans (network_col (chunks x) k).symm

/-- A column's median is the median of the channel it holds. -/
theorem blockMed_apply (x : FVec Ideal Blk .f32) (k : Fin 128) :
    blockMed x (ix2 0 k) = medOf (ascending fun i => x (ix3 (⟨k.val / 32, by omega⟩ : Fin 4) i (⟨k.val % 32, by omega⟩ : Fin 32))) := by
  rw [sorted_chunks]
  unfold blockMed medians medOf
  rw [col_at (network (chunks x)) k _ 3 127 rfl, col_at (network (chunks x)) k _ 4 0 rfl]
  pointwise [level, last, head]
  rfl

/-- A column's range is the range of the channel it holds. -/
theorem blockIqr_apply (x : FVec Ideal Blk .f32) (k : Fin 128) :
    blockIqr x (ix2 0 k) = iqrOf (ascending fun i => x (ix3 (⟨k.val / 32, by omega⟩ : Fin 4) i (⟨k.val % 32, by omega⟩ : Fin 32))) := by
  rw [sorted_chunks]
  unfold blockIqr ranges iqrOf
  rw [col_at (network (chunks x)) k _ 5 127 rfl, col_at (network (chunks x)) k _ 6 0 rfl,
    col_at (network (chunks x)) k _ 1 127 rfl, col_at (network (chunks x)) k _ 2 0 rfl]
  pointwise [level, last, head]
  rfl

end Cert.Net

end
-- ==== Proof.KernelIdeal.Stats.lean ====
/-
  What the statistics kernel leaves: for every batch and channel the median and the range of the channel's history.
-/
module

public import proofs.«01_k».proof.Proof.KernelIdeal.Run
public import proofs.«01_k».proof.Proof.Shared.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Net Cert.Spec

/-- The statistics of a block, at batch, row and channel. -/
def blockStats (x : FVec Ideal Blk .f32) (y : S4x8x32.Idx) : EReal :=
  if (y 1).val = 1 then blockIqr x (ix2 0 ⟨32 * (y 0).val + (y 2).val, by have h0 : (y 0).val < 4 := (y 0).isLt; have h2 : (y 2).val < 32 := (y 2).isLt; omega⟩)
  else blockMed x (ix2 0 ⟨32 * (y 0).val + (y 2).val, by have h0 : (y 0).val < 4 := (y 0).isLt; have h2 : (y 2).val < 32 := (y 2).isLt; omega⟩)

theorem rowAt_apply (off : Nat) (h : Row.Slices ![0, off] Part) (v : FVec Ideal Row .f32) (j : Part3.Idx) (hk : off + (j 2).val < 128) :
    rowAt off h v j = v (ix2 0 ⟨off + (j 2).val, hk⟩) := by
  idx_vars j
  unfold rowAt
  pointwise

theorem rowsAt_apply (off : Nat) (h : Row.Slices ![0, off] Part) (v : FVec Ideal Row .f32) (j : Six3.Idx) (hk : off + (j 2).val < 128) :
    rowsAt off h v j = v (ix2 0 ⟨off + (j 2).val, hk⟩) := by
  idx_vars j
  unfold rowsAt
  pointwise

theorem blockStats_iqr (x : FVec Ideal Blk .f32) (y : S4x8x32.Idx) (k : Nat) (hk : k < 128) (h1 : (y 1).val = 1) (h : 32 * (y 0).val + (y 2).val = k) :
    blockStats x y = blockIqr x (ix2 0 ⟨k, hk⟩) := by
  subst h; exact if_pos h1

theorem blockStats_med (x : FVec Ideal Blk .f32) (y : S4x8x32.Idx) (k : Nat) (hk : k < 128) (h1 : (y 1).val ≠ 1) (h : 32 * (y 0).val + (y 2).val = k) :
    blockStats x y = blockMed x (ix2 0 ⟨k, hk⟩) := by
  subst h; exact if_neg h1

/-- The stored row of medians of batch `b` holds the block's statistics. -/
theorem med_row (b off : Nat) (hb : off = 32 * b) (h : Row.Slices ![0, off] Part) (inb) (x : FVec Ideal Blk .f32)
    (j : (Rect.unit (s := S4x8x32) ![b, 0, 0] ![1, 1, 32] inb).shape.Idx) :
    rowAt off h (blockMed x) j = blockStats x ((Rect.unit (s := S4x8x32) ![b, 0, 0] ![1, 1, 32] inb).emb j) := by
  have h2 : (j 2).val < 32 := (j 2).isLt
  have h0 : (j 0).val < 1 := (j 0).isLt
  have h1 : (j 1).val < 1 := (j 1).isLt
  have hb' : b + 1 ≤ 4 := inb 0
  refine (rowAt_apply off h _ j (by omega)).trans (Eq.symm (blockStats_med _ _ _ _ ?_ ?_))
  · show 0 + 1 * (j 1).val ≠ 1
    omega
  · show 32 * (b + 1 * (j 0).val) + (0 + 1 * (j 2).val) = off + (j 2).val
    omega

/-- The stored row of ranges of batch `b` holds the block's statistics. -/
theorem iqr_row (b off : Nat) (hb : off = 32 * b) (h : Row.Slices ![0, off] Part) (inb) (x : FVec Ideal Blk .f32)
    (j : (Rect.unit (s := S4x8x32) ![b, 1, 0] ![1, 1, 32] inb).shape.Idx) :
    rowAt off h (blockIqr x) j = blockStats x ((Rect.unit (s := S4x8x32) ![b, 1, 0] ![1, 1, 32] inb).emb j) := by
  have h2 : (j 2).val < 32 := (j 2).isLt
  have h0 : (j 0).val < 1 := (j 0).isLt
  have h1 : (j 1).val < 1 := (j 1).isLt
  have hb' : b + 1 ≤ 4 := inb 0
  refine (rowAt_apply off h _ j (by omega)).trans (Eq.symm (blockStats_iqr _ _ _ _ ?_ ?_))
  · show 1 + 1 * (j 1).val = 1
    omega
  · show 32 * (b + 1 * (j 0).val) + (0 + 1 * (j 2).val) = off + (j 2).val
    omega

/-- The six filling rows of batch `b` hold its medians. -/
theorem med_rows (b off : Nat) (hb : off = 32 * b) (h : Row.Slices ![0, off] Part) (inb) (x : FVec Ideal Blk .f32)
    (j : (Rect.unit (s := S4x8x32) ![b, 2, 0] ![1, 6, 32] inb).shape.Idx) :
    rowsAt off h (blockMed x) j = blockStats x ((Rect.unit (s := S4x8x32) ![b, 2, 0] ![1, 6, 32] inb).emb j) := by
  have h2 : (j 2).val < 32 := (j 2).isLt
  have h0 : (j 0).val < 1 := (j 0).isLt
  have hb' : b + 1 ≤ 4 := inb 0
  refine (rowsAt_apply off h _ j (by omega)).trans (Eq.symm (blockStats_med _ _ _ _ ?_ ?_))
  · show 2 + 1 * (j 1).val ≠ 1
    omega
  · show 32 * (b + 1 * (j 0).val) + (0 + 1 * (j 2).val) = off + (j 2).val
    omega

theorem out_stats (c : Dev nD) (i : grid0.Coords) (arg1 : Memref sig .tc .vmem S4x1024x32 .f32) (harg1 : arg1.IsWhole) (arg2 : Memref sig .tc .vmem S4x8x32 .f32) (harg2 : arg2.IsWhole)
    (x0 : Vec Ideal S4x1024x32 .f32) (y : S4x8x32.Idx) : out0_A_1 c i arg1 harg1 arg2 harg2 x0 y = blockStats x0 y := by
  have hc := cover0_A_1 c i arg1 harg1 arg2 harg2 x0 y
  unfold out0_A_1
  rw [View.read_writes_apply_eq_canon _ _ _ _ hc]
  refine View.canon_apply_of_pieces (blockStats x0) _ (fun p hp j => ?_) y hc
  clear hc
  frame_out at hp
  simp only [List.mem_cons, List.mem_nil_iff, or_false] at hp
  rcases hp with rfl | rfl | rfl | rfl | rfl | rfl | rfl | rfl | rfl | rfl | rfl | rfl
  · exact med_rows 3 96 rfl partOf3 inb_S4x8x32_S1x6x32_3_2_0 x0 j
  · exact iqr_row 3 96 rfl partOf3 inb_S4x8x32_S1x1x32_3_1_0 x0 j
  · exact med_row 3 96 rfl partOf3 inb_S4x8x32_S1x1x32_3_0_0 x0 j
  · exact med_rows 2 64 rfl partOf2 inb_S4x8x32_S1x6x32_2_2_0 x0 j
  · exact iqr_row 2 64 rfl partOf2 inb_S4x8x32_S1x1x32_2_1_0 x0 j
  · exact med_row 2 64 rfl partOf2 inb_S4x8x32_S1x1x32_2_0_0 x0 j
  · exact med_rows 1 32 rfl partOf1 inb_S4x8x32_S1x6x32_1_2_0 x0 j
  · exact iqr_row 1 32 rfl partOf1 inb_S4x8x32_S1x1x32_1_1_0 x0 j
  · exact med_row 1 32 rfl partOf1 inb_S4x8x32_S1x1x32_1_0_0 x0 j
  · exact med_rows 0 0 rfl partOf0 inb_S4x8x32_S1x6x32_0_2_0 x0 j
  · exact iqr_row 0 0 rfl partOf0 inb_S4x8x32_S1x1x32_0_1_0 x0 j
  · exact med_row 0 0 rfl partOf0 inb_S4x8x32_S1x1x32_0_0_0 x0 j

theorem idx0 : ∀ t : Fin cfg0.N, win0_0.index t = ![t.val, 0, 0] ∧ win0_1.index t = ![t.val, 0, 0] :=
  (by decide +kernel : ∀ t : Fin grid0.N, _)

/-- The two statistics, laid out as the first call lays them out. -/
def statsArr (hv : FVec Ideal S64x1024x32 .f32) : FVec Ideal S64x8x32 .f32 := fun i =>
  if (i 1).val = 1 then iqr hv (i 0) (i 2) else med hv (i 0) (i 2)

variable (V : (c : Dev nD) → (b : Ref sig .tc) → Buf (Elt Ideal) ((c : Thread nD τ).loc b))

/-- After the first call the statistics array holds the medians and the ranges. -/
theorem stats (c : Dev nD) : (dat0 V c).arrAt 1 cfg0.N = statsArr (V c main_arg0) := by
  refine (dat0 V c).arrAt_eq_of_covers 1 _ (by decide +kernel) fun t _ y => ?_
  blk_simp
  rw [after0_1]
  unfold outsAt0
  rw [out_stats]
  unfold blockStats statsArr
  blk_simp [idx0 t]
  have h0 : (y 0).val < 4 := (y 0).isLt
  have h2 : (y 2).val < 32 := (y 2).isLt
  have hcol : (fun i : Fin 1024 => iblk0 V c 0 t (ix3 (⟨(32 * (y 0).val + (y 2).val) / 32, by omega⟩ : Fin 4) i (⟨(32 * (y 0).val + (y 2).val) % 32, by omega⟩ : Fin 32)))
      = fun i => (V c main_arg0 : FVec Ideal S64x1024x32 .f32) (ix3 ((win0_1.blk t).view.emb y 0) i ((win0_1.blk t).view.emb y 2)) := by
    funext i
    have e0 : (32 * (y 0).val + (y 2).val) / 32 = (y 0).val := by omega
    have e2 : (32 * (y 0).val + (y 2).val) % 32 = (y 2).val := by omega
    blk_ext [iblk0, idx0 t]
  refine if_congr Iff.rfl ?_ ?_
  · exact (blockIqr_apply _ _).trans (congrArg (fun f => iqrOf (ascending f)) hcol)
  · exact (blockMed_apply _ _).trans (congrArg (fun f => medOf (ascending f)) hcol)

end Cert.KernelIdeal.Value

end
-- ==== Proof.KernelIdeal.Expand.lean ====
/-
  What the expanding kernel leaves in its three blocks, and in the three arrays.
-/
module

public import proofs.«01_k».proof.Proof.KernelIdeal.Pick
public import proofs.«01_k».proof.Proof.KernelIdeal.Stats

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

section Blocks
variable (c : Dev nD) (i : grid1.Coords) (arg2 : Memref sig .tc .vmem S1x1024x32 .f32) (harg2 : arg2.IsWhole) (arg3 : Memref sig .tc .vmem S1x8x32 .f32) (harg3 : arg3.IsWhole) (arg4 : Memref sig .tc .vmem S1x1024x4 .i32) (harg4 : arg4.IsWhole) (arg5 : Memref sig .tc .vmem S1x128x4 .i32) (harg5 : arg5.IsWhole) (arg6 : Memref sig .tc .vmem S1x128x8 .f32) (harg6 : arg6.IsWhole) (arg7 : Memref sig .tc .vmem S1x1x8 .i32) (harg7 : arg7.IsWhole) (arg8 : Memref sig .tc .vmem S1x1x1 .i32) (harg8 : arg8.IsWhole) (arg9 : Memref sig .tc .vmem S64x576 .f32) (harg9 : arg9.IsWhole) (arg10 : Memref sig .tc .vmem S11x4 .f32) (harg10 : arg10.IsWhole) (arg11 : Memref sig .tc .vmem S12x4 .f32) (harg11 : arg11.IsWhole) (arg12 : Memref sig .tc .vmem S31x6 .f32) (harg12 : arg12.IsWhole) (arg13 : Memref sig .tc .vmem S7x4 .f32) (harg13 : arg13.IsWhole) (arg14 : Memref sig .tc .vmem S1x1024x576 .f32) (harg14 : arg14.IsWhole) (arg15 : Memref sig .tc .vmem S1x128x576 .f32) (harg15 : arg15.IsWhole) (arg16 : Memref sig .tc .vmem S1x128x8 .f32) (harg16 : arg16.IsWhole) (hc0 : cond1_0 i)
  (x0 : Vec Ideal S1x1024x32 .f32) (x1 : Vec Ideal S1x8x32 .f32) (x2 : Vec Ideal S1x1024x4 .i32) (x3 : Vec Ideal S1x128x4 .i32) (x4 : Vec Ideal S1x128x8 .f32) (x5 : Vec Ideal S1x1x8 .i32) (x6 : Vec Ideal S1x1x1 .i32) (x7 : Vec Ideal S64x576 .f32) (x8 : Vec Ideal S11x4 .f32) (x9 : Vec Ideal S12x4 .f32) (x10 : Vec Ideal S31x6 .f32) (x11 : Vec Ideal S7x4 .f32)

theorem out12_apply (s : Fin 1024) (k : Fin 576) : out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 (ix3 0 s k) =
    ∑ x, line (fun c => Ideal.div (x0 (ix3 0 s c) - x1 (ix3 0 0 c)) (x1 (ix3 0 1 c))) (lag (x6 (ix3 0 0 0)) (x2 (ix3 0 s 0))) (x2 (ix3 0 s 1)) (x2 (ix3 0 s 2)) (x2 (ix3 0 s 3)) 1 x
      * x7 (ix2 x k) := by
  unfold out1_A_12
  frame_out
  refine (store1_apply _ _ _ _ _ _ s k).trans ?_
  pointwise

theorem out13_apply (s : Fin 128) (k : Fin 576) : out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 (ix3 0 s k) =
    ∑ x, line (fun _ => 0) (lag (x6 (ix3 0 0 0)) (x3 (ix3 0 s 0))) (x3 (ix3 0 s 1)) (x3 (ix3 0 s 2)) (x3 (ix3 0 s 3)) 0 x * x7 (ix2 x k) := by
  unfold out1_A_13
  frame_out
  refine (store2_apply _ _ _ s k).trans ?_
  rw [show extractAt ![0, 0, 0] x6 inpos_S1x1x1_p0_0_0 = x6 (ix3 0 0 0) by pointwise]

theorem out14_apply (p : Fin 128) (t : Fin 8) : out1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 (ix3 0 p t) =
    Ideal.div (x4 (ix3 0 p t) - picked (x5 (ix3 0 0 t)) (fun c => x1 (ix3 0 0 c)) 31) (picked (x5 (ix3 0 0 t)) (fun c => x1 (ix3 0 1 c)) 31) := by
  unfold out1_A_14
  frame_out
  refine (store3_apply _ _ _ _ p t).trans ?_
  pointwise

end Blocks

theorem idx1 : ∀ t : Fin cfg1.N, win1_0.index t = ![t.val, 0, 0] ∧ win1_1.index t = ![t.val, 0, 0] ∧ win1_2.index t = ![t.val, 0, 0] ∧ win1_3.index t = ![t.val, 0, 0]
    ∧ win1_4.index t = ![t.val, 0, 0] ∧ win1_5.index t = ![t.val, 0, 0] ∧ win1_6.index t = ![t.val, 0, 0] ∧ win1_7.index t = ![0, 0]
    ∧ win1_12.index t = ![t.val, 0, 0] ∧ win1_13.index t = ![t.val, 0, 0] ∧ win1_14.index t = ![t.val, 0, 0] :=
  (by decide +kernel : ∀ t : Fin grid1.N, _)

section Arrays
variable (V : (c : Dev nD) → (b : Ref sig .tc) → Buf (Elt Ideal) ((c : Thread nD τ).loc b)) (c : Dev nD)

/-- The calls' arrays, as the second call finds them. -/
abbrev vHv : FVec Ideal S64x1024x32 .f32 := V c main_arg0
abbrev vTv : FVec Ideal S64x128x8 .f32 := V c main_arg1
abbrev vTci : IVec S64x8 32 := V c main_arg2
abbrev vHtf : IVec S64x1024x4 32 := V c main_arg3
abbrev vTtf : IVec S64x128x4 32 := V c main_arg4
abbrev vYt : FVec Ideal S11x4 .f32 := V c main_arg5
abbrev vMt : FVec Ideal S12x4 .f32 := V c main_arg6
abbrev vDt : FVec Ideal S31x6 .f32 := V c main_arg7
abbrev vWt : FVec Ideal S7x4 .f32 := V c main_arg8
abbrev vW : FVec Ideal S18 .f32 := V c main_arg9
abbrev vB : FVec Ideal S18 .f32 := V c main_arg10

/-- What the first call and the host have prepared. -/
structure Ready : Prop where
  stats : V c main_call0_v0 = statsArr (vHv V c)
  rows : V c main_call0_v38 = rows (vYt V c) (vMt V c) (vDt V c) (vWt V c) (vW V c) (vB V c)
  year : V c main_call0_v39 = extractStridedSlice S64x1x1 ![0, 1023, 0] (vHtf V c) slices_S64x1024x4_S64x1x1_0_1023_0
  channels : V c main_call0_v40 = shapeCast S64x1x8 (vTci V c) shapeCasts_S64x8_S64x1x8

variable (t : Fin cfg1.N) (b : Fin 64) (hb : t.val = b.val)
include hb

theorem read0 (s : Fin 1024) (k : Fin 32) : iblk1 V c 0 t (ix3 0 s k) = vHv V c (ix3 b s k) := by blk_ext [iblk1, idx1 t]
theorem read2 (s : Fin 1024) (k : Fin 4) : iblk1 V c 2 t (ix3 0 s k) = vHtf V c (ix3 b s k) := by blk_ext [iblk1, idx1 t]
theorem read3 (s : Fin 128) (k : Fin 4) : iblk1 V c 3 t (ix3 0 s k) = vTtf V c (ix3 b s k) := by blk_ext [iblk1, idx1 t]
theorem read4 (s : Fin 128) (k : Fin 8) : iblk1 V c 4 t (ix3 0 s k) = vTv V c (ix3 b s k) := by blk_ext [iblk1, idx1 t]

variable (h : Ready V c)
include h
theorem read1_med (k : Fin 32) : iblk1 V c 1 t (ix3 0 0 k) = med (vHv V c) b k := by
  have : iblk1 V c 1 t (ix3 0 0 k) = (V c main_call0_v0 : FVec Ideal S64x8x32 .f32) (ix3 b 0 k) := by blk_ext [iblk1, idx1 t]
  rw [this, h.stats]
  rfl
theorem read1_iqr (k : Fin 32) : iblk1 V c 1 t (ix3 0 1 k) = iqr (vHv V c) b k := by
  have : iblk1 V c 1 t (ix3 0 1 k) = (V c main_call0_v0 : FVec Ideal S64x8x32 .f32) (ix3 b 1 k) := by blk_ext [iblk1, idx1 t]
  rw [this, h.stats]
  rfl
theorem read5 (k : Fin 8) : iblk1 V c 5 t (ix3 0 0 k) = vTci V c (ix2 b k) := by
  have : iblk1 V c 5 t (ix3 0 0 k) = (V c main_call0_v40 : IVec S64x1x8 32) (ix3 b 0 k) := by blk_ext [iblk1, idx1 t]
  rw [this, h.channels]
  pointwise
theorem read6 : iblk1 V c 6 t (ix3 0 0 0) = vHtf V c (ix3 b 1023 0) := by
  have : iblk1 V c 6 t (ix3 0 0 0) = (V c main_call0_v39 : IVec S64x1x1 32) (ix3 b 0 0) := by blk_ext [iblk1, idx1 t]
  rw [this, h.year]
  pointwise
theorem read7 (x : Fin 64) (k : Fin 576) : iblk1 V c 7 t (ix2 x k) = rows (vYt V c) (vMt V c) (vDt V c) (vWt V c) (vW V c) (vB V c) (ix2 x k) := by
  have : iblk1 V c 7 t (ix2 x k) = (V c main_call0_v38 : FVec Ideal S64x576 .f32) (ix2 x k) := by blk_ext [iblk1, idx1 t]
  rw [this, h.rows]
end Arrays

end Cert.KernelIdeal.Value
-- ==== Proof.KernelIdeal.Arrays.lean ====
/-
  The three arrays the second call leaves.
-/
module

public import proofs.«01_k».proof.Proof.KernelIdeal.Expand

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

theorem lag_eq {r y : BitVec 32} (hr : r.toNat < 7) (hy : y.toNat < 7) : lag r y = BitVec.ofNat 32 (years r y).val := by
  rw [← years_clip hr hy]
  exact eq_ofNat
theorem slot_eq {x : BitVec 32} (hx : x.toNat < 7) : x = BitVec.ofNat 32 (slot x).val := by
  rw [slot_val hx]
  exact eq_ofNat
theorem chan_eq {x : BitVec 32} (hx : x.toNat < 32) : x = BitVec.ofNat 32 (chan x).val := by
  rw [chan_val hx]
  exact eq_ofNat

variable (V : (c : Dev nD) → (b : Ref sig .tc) → Buf (Elt Ideal) ((c : Thread nD τ).loc b)) (c : Dev nD)
  (h : Ready V c) (hr : InRange (vTci V c) (vHtf V c) (vTtf V c))

section Points
variable (t : Fin cfg1.N) (b : Fin 64) (hb : t.val = b.val)
include h hr hb

theorem point12 (s : Fin 1024) (k : Fin 576) : (outsAt1 V c t).1 (ix3 0 s k) =
    out1 (vHv V c) (vHtf V c) (vYt V c) (vMt V c) (vDt V c) (vWt V c) (vW V c) (vB V c) b s
      ⟨k.val / 18, by omega⟩ ⟨k.val % 18, Nat.mod_lt _ (by decide)⟩ := by
  unfold outsAt1
  have e := out12_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (hcond1_0 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) s k
  dsimp only
  rw [e]
  clear e
  rw [read2 V c t b hb, read2 V c t b hb, read2 V c t b hb, read2 V c t b hb, read6 V c t b hb h]
  have hs : (fun e : Fin 32 => Ideal.div (HSub.hSub (α := EReal) (β := EReal) (γ := EReal) (iblk1 V c 0 t (ix3 0 s e)) (iblk1 V c 1 t (ix3 0 0 e))) (iblk1 V c 1 t (ix3 0 1 e)))
      = fun e => Ideal.div (vHv V c (ix3 b s e) - med (vHv V c) b e) (iqr (vHv V c) b e) := by
    funext e
    rw [read0 V c t b hb, read1_med V c t b hb h, read1_iqr V c t b hb h]
  rw [hs]
  refine (Finset.sum_congr rfl fun x _ => congrArg (line _ _ _ _ _ _ x * ·) (read7 V c t b hb h x k)).trans ?_
  refine (line_rows _ _ _ _ _ _ k _ 1 (years (vHtf V c (ix3 b 1023 0)) (vHtf V c (ix3 b s 0))) (slot (vHtf V c (ix3 b s 1))) (slot (vHtf V c (ix3 b s 2)))
    (slot (vHtf V c (ix3 b s 3))) _ _ _ _ (lag_eq (hr.htf _ _ _) (hr.htf _ _ _)) (slot_eq (hr.htf _ _ _)) (slot_eq (hr.htf _ _ _)) (slot_eq (hr.htf _ _ _))).trans ?_
  rw [one_mul, add_right_comm]
  rfl

theorem point13 (s : Fin 128) (k : Fin 576) : (outsAt1 V c t).2.1 (ix3 0 s k) =
    out2 (vHtf V c) (vTtf V c) (vYt V c) (vMt V c) (vDt V c) (vWt V c) b s ⟨k.val % 18, Nat.mod_lt _ (by decide)⟩ := by
  unfold outsAt1
  have e := out13_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (hcond1_0 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) s k
  dsimp only
  rw [e]
  clear e
  rw [read3 V c t b hb, read3 V c t b hb, read3 V c t b hb, read3 V c t b hb, read6 V c t b hb h]
  refine (Finset.sum_congr rfl fun x _ => congrArg (line _ _ _ _ _ _ x * ·) (read7 V c t b hb h x k)).trans ?_
  refine (line_rows _ _ _ _ _ _ k _ 0 (years (vHtf V c (ix3 b 1023 0)) (vTtf V c (ix3 b s 0))) (slot (vTtf V c (ix3 b s 1))) (slot (vTtf V c (ix3 b s 2)))
    (slot (vTtf V c (ix3 b s 3))) _ _ _ _ (lag_eq (hr.htf _ _ _) (hr.ttf _ _ _)) (slot_eq (hr.ttf _ _ _)) (slot_eq (hr.ttf _ _ _)) (slot_eq (hr.ttf _ _ _))).trans ?_
  rw [zero_mul, zero_mul, zero_add, add_zero]
  rfl

theorem point14 (p : Fin 128) (k : Fin 8) : (outsAt1 V c t).2.2 (ix3 0 p k) = out3 (vHv V c) (vTv V c) (vTci V c) b p k := by
  unfold outsAt1
  refine Eq.trans (out14_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (hcond1_0 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) p k) ?_
  rw [read4 V c t b hb, read5 V c t b hb h]
  have hm : (fun e : Fin 32 => iblk1 V c 1 t (ix3 0 0 e)) = fun e => med (vHv V c) b e := funext fun e => read1_med V c t b hb h e
  have hi : (fun e : Fin 32 => iblk1 V c 1 t (ix3 0 1 e)) = fun e => iqr (vHv V c) b e := funext fun e => read1_iqr V c t b hb h e
  rw [hm, hi, chan_eq (hr.tci b k), picked_all, picked_all]
  rfl
end Points

include h hr

theorem arr12 : (dat1 V c).arrAt 12 cfg1.N = (fun i => out1 (vHv V c) (vHtf V c) (vYt V c) (vMt V c) (vDt V c) (vWt V c) (vW V c) (vB V c) (i 0) (i 1)
    ⟨(i 2).val / 18, by have := (i 2).isLt; change (i 2).val < 576 at this; omega⟩ ⟨(i 2).val % 18, Nat.mod_lt _ (by decide)⟩ : FVec Ideal S64x1024x576 .f32) := by
  refine (dat1 V c).arrAt_eq_of_covers 12 _ (by decide +kernel) fun t _ y => ?_
  have ht : t.val < 64 := t.isLt
  blk_simp
  rw [after1_12]
  idx_vars y
  obtain rfl : y0 = 0 := Subsingleton.elim _ _
  refine (point12 V c h hr t ⟨t.val, ht⟩ rfl y1 y2).trans ?_
  congr 1 <;> apply Fin.ext <;> blk_simp [idx1 t] <;> rfl

theorem arr13 : (dat1 V c).arrAt 13 cfg1.N = (fun i => out2 (vHtf V c) (vTtf V c) (vYt V c) (vMt V c) (vDt V c) (vWt V c) (i 0) (i 1)
    ⟨(i 2).val % 18, Nat.mod_lt _ (by decide)⟩ : FVec Ideal S64x128x576 .f32) := by
  refine (dat1 V c).arrAt_eq_of_covers 13 _ (by decide +kernel) fun t _ y => ?_
  have ht : t.val < 64 := t.isLt
  blk_simp
  rw [after1_13]
  idx_vars y
  obtain rfl : y0 = 0 := Subsingleton.elim _ _
  refine (point13 V c h hr t ⟨t.val, ht⟩ rfl y1 y2).trans ?_
  congr 1 <;> apply Fin.ext <;> blk_simp [idx1 t] <;> rfl

theorem arr14 : (dat1 V c).arrAt 14 cfg1.N = (fun i => out3 (vHv V c) (vTv V c) (vTci V c) (i 0) (i 1) (i 2) : FVec Ideal S64x128x8 .f32) := by
  refine (dat1 V c).arrAt_eq_of_covers 14 _ (by decide +kernel) fun t _ y => ?_
  have ht : t.val < 64 := t.isLt
  blk_simp
  rw [after1_14]
  idx_vars y
  obtain rfl : y0 = 0 := Subsingleton.elim _ _
  refine (point14 V c h hr t ⟨t.val, ht⟩ rfl y1 y2).trans ?_
  congr 1 <;> apply Fin.ext <;> blk_simp [idx1 t] <;> rfl

end Cert.KernelIdeal.Value
-- ==== Proof.Shared.Answers.lean ====
/-
  The three answers as arrays.
-/
module

public import proofs.«01_k».proof.Proof.Shared.Spec

@[expose] public section

noncomputable section

namespace Cert.Spec

open Idealize.ShloMosaic

variable (hv : FVec Ideal ⟨3, ![64, 1024, 32]⟩ .f32) (tv : FVec Ideal ⟨3, ![64, 128, 8]⟩ .f32) (tci : IVec ⟨2, ![64, 8]⟩ 32)
  (htf : IVec ⟨3, ![64, 1024, 4]⟩ 32) (ttf : IVec ⟨3, ![64, 128, 4]⟩ 32) (yt : FVec Ideal ⟨2, ![11, 4]⟩ .f32)
  (mt : FVec Ideal ⟨2, ![12, 4]⟩ .f32) (dt : FVec Ideal ⟨2, ![31, 6]⟩ .f32) (wt : FVec Ideal ⟨2, ![7, 4]⟩ .f32)
  (W bias : FVec Ideal ⟨1, ![18]⟩ .f32)

/-- The first answer: the history, its channels and their features in one axis. -/
def answer1 : FVec Ideal ⟨3, ![64, 1024, 576]⟩ .f32 := fun i =>
  out1 hv htf yt mt dt wt W bias (i 0) (i 1) ⟨(i 2).val / 18, by have := (i 2).isLt; change (i 2).val < 576 at this; omega⟩
    ⟨(i 2).val % 18, Nat.mod_lt _ (by decide)⟩

/-- The second answer: the targets' time features, the same for every channel. -/
def answer2 : FVec Ideal ⟨4, ![64, 128, 32, 18]⟩ .f32 := fun i => out2 htf ttf yt mt dt wt (i 0) (i 1) (i 3)

/-- The third answer: the targets, scaled. -/
def answer3 : FVec Ideal ⟨3, ![64, 128, 8]⟩ .f32 := fun i => out3 hv tv tci (i 0) (i 1) (i 2)

end Cert.Spec

end
-- ==== Proof.KernelIdeal.Values.lean ====
/-
  What the kernel's run leaves in its three results, of the arguments.
-/
module

public import proofs.«01_k».proof.Proof.KernelIdeal.Arrays
public import proofs.«01_k».proof.Proof.Shared.Answers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (m : (ℓ : Loc nD τ sig) → Buf (Elt Ideal) ℓ) (ρ : Dev nD → PrngReg) (c : Dev nD)

/-- Neither call nor the host between them writes an argument. -/
theorem kept (a : Ref sig .tc) (ha : a ∈ argRefs) : W1 m ρ c (Proc.devRef .tc a) = W2 m ρ c (Proc.devRef .tc a) :=
  (W1_args m ρ c a ha).trans (W2_args m ρ c a ha).symm

/-- What the second call finds: the statistics, the matrix, the year of the last time, and the channels. -/
theorem ready : Ready (V2 m ρ) c where
  stats := by
    refine (W2_of m ρ c main_call0_v0 (by decide)).trans ((W1_arr m ρ c 1).trans ((stats (V0 m ρ) c).trans ?_))
    exact congrArg statsArr (W2_args m ρ c main_arg0 (by decide)).symm
  rows := by
    refine (rows_eq (W1 m ρ c)).trans ?_
    rw [kept m ρ c main_arg5 (by decide), kept m ρ c main_arg6 (by decide), kept m ρ c main_arg7 (by decide), kept m ρ c main_arg8 (by decide),
      kept m ρ c main_arg9 (by decide), kept m ρ c main_arg10 (by decide)]
  year := by
    refine (year_eq (W1 m ρ c)).trans ?_
    rw [kept m ρ c main_arg3 (by decide)]
  channels := by
    refine (channels_eq (W1 m ρ c)).trans ?_
    rw [kept m ρ c main_arg2 (by decide)]

/-- An argument as the run finds it. -/
abbrev arg (a : Ref sig .tc) : Buf (Elt Ideal) ((c : Thread nD τ).loc a) := m ((c : Thread nD τ).loc a)

variable (hr : InRange (arg m c main_arg2) (arg m c main_arg3) (arg m c main_arg4))

include hr in
theorem inRange2 : InRange (vTci (V2 m ρ) c) (vHtf (V2 m ρ) c) (vTtf (V2 m ρ) c) := by
  have e2 : vTci (V2 m ρ) c = arg m c main_arg2 := W2_args m ρ c main_arg2 (by decide)
  have e3 : vHtf (V2 m ρ) c = arg m c main_arg3 := W2_args m ρ c main_arg3 (by decide)
  have e4 : vTtf (V2 m ρ) c = arg m c main_arg4 := W2_args m ρ c main_arg4 (by decide)
  rw [e2, e3, e4]
  exact hr

include hr in
theorem value1 : W4 m ρ c (Proc.devRef .tc main_v0_0) =
    answer1 (arg m c main_arg0) (arg m c main_arg3) (arg m c main_arg5) (arg m c main_arg6) (arg m c main_arg7) (arg m c main_arg8)
      (arg m c main_arg9) (arg m c main_arg10) := by
  refine (W4_of m ρ c main_v0_0 (by decide)).trans ((W3_arr m ρ c 12).trans ((arr12 (V2 m ρ) c (ready m ρ c) (inRange2 m ρ c hr)).trans ?_))
  have e0 : vHv (V2 m ρ) c = arg m c main_arg0 := W2_args m ρ c main_arg0 (by decide)
  have e3 : vHtf (V2 m ρ) c = arg m c main_arg3 := W2_args m ρ c main_arg3 (by decide)
  have e5 : vYt (V2 m ρ) c = arg m c main_arg5 := W2_args m ρ c main_arg5 (by decide)
  have e6 : vMt (V2 m ρ) c = arg m c main_arg6 := W2_args m ρ c main_arg6 (by decide)
  have e7 : vDt (V2 m ρ) c = arg m c main_arg7 := W2_args m ρ c main_arg7 (by decide)
  have e8 : vWt (V2 m ρ) c = arg m c main_arg8 := W2_args m ρ c main_arg8 (by decide)
  have e9 : vW (V2 m ρ) c = arg m c main_arg9 := W2_args m ρ c main_arg9 (by decide)
  have e10 : vB (V2 m ρ) c = arg m c main_arg10 := W2_args m ρ c main_arg10 (by decide)
  rw [e0, e3, e5, e6, e7, e8, e9, e10]
  rfl

include hr in
theorem value3 : W4 m ρ c (Proc.devRef .tc main_v0_2) = answer3 (arg m c main_arg0) (arg m c main_arg1) (arg m c main_arg2) := by
  refine (W4_of m ρ c main_v0_2 (by decide)).trans ((W3_arr m ρ c 14).trans ((arr14 (V2 m ρ) c (ready m ρ c) (inRange2 m ρ c hr)).trans ?_))
  have e0 : vHv (V2 m ρ) c = arg m c main_arg0 := W2_args m ρ c main_arg0 (by decide)
  have e1 : vTv (V2 m ρ) c = arg m c main_arg1 := W2_args m ρ c main_arg1 (by decide)
  have e2 : vTci (V2 m ρ) c = arg m c main_arg2 := W2_args m ρ c main_arg2 (by decide)
  rw [e0, e1, e2]
  rfl

/-- The host's last step splits the channels from their features. -/
theorem split_after (A : Valuation τ sig (Elt Ideal)) : StableHlo.after (hostOps2 (F := Ideal)) A (Proc.devRef .tc main_v0_1) =
    shapeCast S64x128x32x18 (A (Proc.devRef .tc main_call0_v41_1)) shapeCasts_S64x128x576_S64x128x32x18 := by
  simp only [hostOps2, StableHlo.TRef.nary, StableHlo.TRef.binary, StableHlo.TRef.nullary, StableHlo.TRef.reshape, StableHlo.TRef.ternary, StableHlo.TRef.unary, StableHlo.TRef.toBuf, StableHlo.TRef.ofBuf, cast_eq]
  after_results_simp
  rfl

include hr in
theorem value2 : W4 m ρ c (Proc.devRef .tc main_v0_1) =
    answer2 (arg m c main_arg3) (arg m c main_arg4) (arg m c main_arg5) (arg m c main_arg6) (arg m c main_arg7) (arg m c main_arg8) := by
  refine (split_after (W3 m ρ c)).trans ?_
  rw [show W3 m ρ c (Proc.devRef .tc main_call0_v41_1) = _ from (W3_arr m ρ c 13).trans (arr13 (V2 m ρ) c (ready m ρ c) (inRange2 m ρ c hr))]
  have e3 : vHtf (V2 m ρ) c = arg m c main_arg3 := W2_args m ρ c main_arg3 (by decide)
  have e4 : vTtf (V2 m ρ) c = arg m c main_arg4 := W2_args m ρ c main_arg4 (by decide)
  have e5 : vYt (V2 m ρ) c = arg m c main_arg5 := W2_args m ρ c main_arg5 (by decide)
  have e6 : vMt (V2 m ρ) c = arg m c main_arg6 := W2_args m ρ c main_arg6 (by decide)
  have e7 : vDt (V2 m ρ) c = arg m c main_arg7 := W2_args m ρ c main_arg7 (by decide)
  have e8 : vWt (V2 m ρ) c = arg m c main_arg8 := W2_args m ρ c main_arg8 (by decide)
  rw [e3, e4, e5, e6, e7, e8]
  funext i
  idx_vars i
  unfold answer2
  pointwise (disch := omega)
  exact congrArg (out2 _ _ _ _ _ _ i0 i1) (Fin.ext (by show (i2.val * 18 + i3.val) % 18 = i3.val; omega))

end Cert.KernelIdeal.Value

end
-- ==== Proof.Shared.Look.lean ====
/-
  Three host operations read at an index: the sort along the middle axis, the rows of a table taken at an array of
  indices, and one entry of each row taken at an index.
-/
module

public import proofs.«01_k».proof.Proof.Shared.Spec
public import Idealize.ShloMosaic.Lib.SortFacts
public import Idealize.ShloMosaic.Lib.SortNet.HostSort

@[expose] public section

set_option maxRecDepth 16384

noncomputable section

open Idealize.ShloMosaic

namespace Cert.Look

open Cert.Spec Idealize.ShloMosaic.SortNet

/-! ## The sort along the middle axis -/

/-- Two rearrangements of a vector that both ascend are the same vector. -/
theorem monotone_unique {n : Nat} (v : Fin n → EReal) (σ τ : Equiv.Perm (Fin n)) (hσ : Monotone (v ∘ σ)) (hτ : Monotone (v ∘ τ)) :
    v ∘ σ = v ∘ τ := by
  have h : ∀ ρ : Equiv.Perm (Fin n), Monotone (v ∘ ρ) → (List.ofFn (v ∘ ρ)).Pairwise (· ≤ ·) := fun ρ hρ => by
    rw [List.pairwise_ofFn]
    exact fun i j hij => hρ (le_of_lt hij)
  exact List.ofFn_injective (List.Perm.eq_of_pairwise (le := (· ≤ ·)) (fun _ _ _ _ => le_antisymm) (h σ hσ) (h τ hτ)
    ((Equiv.Perm.ofFn_comp_perm σ v).trans (Equiv.Perm.ofFn_comp_perm τ v).symm))

/-- A stable sort by "less" leaves the entries ascending. -/
theorem sortedFrom_monotone {n : Nat} (v : Fin n → EReal) (R : Fin n → Fin n → Bool) (hlt : ∀ k k', R k k' = true ↔ v k < v k') :
    Monotone (v ∘ sortedFrom R) := by
  have hle : ∀ k k', R k k' = false ↔ v k' ≤ v k := fun k k' => by
    rw [← not_lt, ← hlt, Bool.not_eq_true]
  refine monotone_iff_forall_lt.mpr fun k k' hk => ?_
  exact (hle _ _).mp (sortedFrom_noInversion R R
    (fun p q h => (hle _ _).mpr ((hlt _ _).mp h).le) (fun _ _ h => h)
    (fun p q r h h' => (hle _ _).mpr (((hle _ _).mp h').trans ((hle _ _).mp h))) k k' hk)

theorem sortedFrom_eq {n : Nat} (v : Fin n → EReal) (R : Fin n → Fin n → Bool) (hlt : ∀ k k', R k k' = true ↔ v k < v k')
    (τ : Equiv.Perm (Fin n)) (hτ : Monotone (v ∘ τ)) : v ∘ sortedFrom R = v ∘ τ :=
  monotone_unique v (Equiv.ofBijective (sortedFrom R) ⟨sortedFrom_injective R, sortedFrom_surjective R⟩) τ
    (sortedFrom_monotone v R hlt) hτ

theorem sortedFrom_eq_ascending (v : Fin (2 ^ 10) → EReal) (R : Fin (2 ^ 10) → Fin (2 ^ 10) → Bool)
    (hlt : ∀ k k', R k k' = true ↔ v k < v k') : v ∘ sortedFrom R = ascending v := by
  obtain ⟨τ, hτ⟩ := Network.exists_perm (sortNet 10 false) v
  unfold ascending
  rw [hτ]
  exact sortedFrom_eq v R hlt τ (hτ ▸ sortNet_apply_monotone 10 v)

/-- The middle-axis sort by a comparator that decides "less" puts every column in ascending order. -/
theorem sort_apply (cmp : EReal → EReal → BitVec 1) (hcmp : ∀ a b, cmp a b = 1#1 ↔ a < b) (x : FVec Ideal ⟨3, ![64, 1024, 32]⟩ .f32)
    (b : Fin 64) (i : Fin 1024) (c : Fin 32) :
    Host.sort ⟨3, ![64, 1024, 32]⟩ 1 cmp x (ix3 b i c) = ascending (fun k => x (ix3 b k c)) i := by
  have halong : ∀ k : Fin 1024, (ix3 b i c : (⟨3, ![64, 1024, 32]⟩ : Shape).Idx).along (1 : Fin 3) k = ix3 b k c := fun k => by
    funext a
    fin_cases a <;> rfl
  set R : Fin 1024 → Fin 1024 → Bool := fun k k' => cmp (x (ix3 b k c)) (x (ix3 b k' c)) == 1#1 with hR
  have hs : Host.sort ⟨3, ![64, 1024, 32]⟩ 1 cmp x (ix3 b i c) = x (ix3 b (sortedFrom R i) c) := by
    unfold Host.sort
    rw [dif_pos (show 1 < (⟨3, ![64, 1024, 32]⟩ : Shape).rank by decide)]
    refine congrArg x ((halong _).trans ?_)
    refine congrArg (fun k => ix3 b k c) ?_
    refine congrArg (fun S => sortedFrom S i) ?_
    funext k k'
    exact congrArg₂ (fun u v => cmp (x u) (x v) == 1#1) (halong k) (halong k')
  rw [hs]
  have hlt : ∀ k k', R k k' = true ↔ x (ix3 b k c) < x (ix3 b k' c) := fun k k' => by
    simp only [hR, beq_iff_eq]
    exact hcmp _ _
  exact congrFun (sortedFrom_eq_ascending (fun k => x (ix3 b k c)) R hlt) i

/-! ## Rows of a table -/

/-- The rows of a table `[N, M]` taken at indices `[B, S, 1]`. -/
abbrev tableDims (N M B S : Nat)
    (wf : GatherDims.WF ⟨2, ![N, M]⟩ ⟨3, ![B, S, 1]⟩ ⟨3, ![B, S, M]⟩ [2] [0] [] [0] [] 2 ![1, M]) :
    GatherDims ⟨2, ![N, M]⟩ ⟨3, ![B, S, 1]⟩ ⟨3, ![B, S, M]⟩ where
  offsetDims := [2]
  collapsedSliceDims := [0]
  operandBatchingDims := []
  startIndicesBatchingDims := []
  startIndexMap := [0]
  indexVectorDim := 2
  sliceSizes := ![1, M]
  wf := wf

/-- At an index within the table: that row. -/
theorem table_apply {N M B S : Nat} (wf) (x : FVec Ideal ⟨2, ![N, M]⟩ .f32) (idx : IVec ⟨3, ![B, S, 1]⟩ 32) (b : Fin B) (s : Fin S) (e : Fin M)
    (k : Fin N) (hN : N ≤ 64) (hk : (idx (ix3 b s 0)).toNat = k.val) :
    Host.gather (tableDims N M B S wf) x idx (ix3 b s e) = x (ix2 k e) := by
  have hi : (idx (ix3 b s 0)).toInt.toNat = k.val := by
    have := k.isLt
    rw [BitVec.toInt_eq_toNat_of_lt (by omega)]
    omega
  unfold Host.gather
  congr 1
  funext a
  refine Fin.ext ?_
  show (tableDims N M B S wf).start (ix3 b s e) idx a + (tableDims N M B S wf).batchCoord (ix3 b s e) a
      + (tableDims N M B S wf).offCoord (ix3 b s e) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableDims N M B S wf).startIndexMap from List.mem_singleton.mpr rfl)]
    have hsi : (tableDims N M B S wf).siIdx (ix3 b s e) ⟨List.idxOf (0 : Fin 2) (tableDims N M B S wf).startIndexMap,
        List.idxOf_lt_length_iff.2 (List.mem_singleton.mpr rfl)⟩ = ix3 b s 0 := by
      funext d; refine Fin.ext ?_
      match d with
      | ⟨0, _⟩ => rfl
      | ⟨1, _⟩ => rfl
      | ⟨2, _⟩ => rfl
    rw [hsi]
    show min (idx (ix3 b s 0)).toInt.toNat (N - 1) = k.val
    have := k.isLt
    omega
  · rw [GatherDims.batchCoord_eq_zero _ _ _ (fun h => by simp at h)]
    unfold GatherDims.start
    rw [dif_neg (show ¬ (1 : Fin 2) ∈ (tableDims N M B S wf).startIndexMap by simp)]
    simp only [Nat.zero_add, Nat.add_zero]
    unfold GatherDims.offCoord
    rw [dif_pos (show (1 : Fin 2) ∈ (tableDims N M B S wf).sKept from (GatherDims.mem_sKept _ _).mpr ⟨by simp, by simp⟩)]
    rfl

/-! ## One entry of each row -/

/-- One entry of each row of `[B, N]` taken at indices `[B, T, 1]`, row for row. -/
abbrev pickDims (B N T : Nat) (wf : GatherDims.WF ⟨2, ![B, N]⟩ ⟨3, ![B, T, 1]⟩ ⟨2, ![B, T]⟩ [] [1] [0] [1] [0] 2 ![1, 1]) :
    GatherDims ⟨2, ![B, N]⟩ ⟨3, ![B, T, 1]⟩ ⟨2, ![B, T]⟩ where
  offsetDims := []
  collapsedSliceDims := [1]
  operandBatchingDims := [0]
  startIndicesBatchingDims := [0]
  startIndexMap := [1]
  indexVectorDim := 2
  sliceSizes := ![1, 1]
  wf := wf

/-- At an index within the row: that entry. -/
theorem pick_apply {B N T : Nat} (wf) (x : FVec Ideal ⟨2, ![B, N]⟩ .f32) (idx : IVec ⟨3, ![B, T, 1]⟩ 32) (b : Fin B) (t : Fin T)
    (k : Fin N) (hN : N ≤ 64) (hk : (idx (ix3 b t 0)).toNat = k.val) :
    Host.gather (pickDims B N T wf) x idx (ix2 b t) = x (ix2 b k) := by
  have hi : (idx (ix3 b t 0)).toInt.toNat = k.val := by
    have := k.isLt
    rw [BitVec.toInt_eq_toNat_of_lt (by omega)]
    omega
  unfold Host.gather
  congr 1
  funext a
  refine Fin.ext ?_
  show (pickDims B N T wf).start (ix2 b t) idx a + (pickDims B N T wf).batchCoord (ix2 b t) a
      + (pickDims B N T wf).offCoord (ix2 b t) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (pickDims B N T wf).startIndexMap from List.mem_singleton.mpr rfl)]
    have hsi : (pickDims B N T wf).siIdx (ix2 b t) ⟨List.idxOf (1 : Fin 2) (pickDims B N T wf).startIndexMap,
        List.idxOf_lt_length_iff.2 (List.mem_singleton.mpr rfl)⟩ = ix3 b t 0 := by
      funext d; refine Fin.ext ?_
      match d with
      | ⟨0, _⟩ => rfl
      | ⟨1, _⟩ => rfl
      | ⟨2, _⟩ => rfl
    rw [hsi]
    show min (idx (ix3 b t 0)).toInt.toNat (N - 1) = k.val
    have := k.isLt
    omega

end Cert.Look

end
-- ==== Proof.ReferenceIdeal.Results.lean ====
/-
  The reference's results, entry by entry.
-/
module

public import proofs.«01_k».proof.Proof.Gen.ReferenceIdeal.Run
public import proofs.«01_k».proof.Proof.Shared.Spec
public import proofs.«01_k».proof.Proof.Shared.Look
public import proofs.«01_k».proof.Proof.Shared.Range
public import Idealize.ShloMosaic.Lib.ReduceAll
public import Idealize.ShloMosaic.Lib.IdealHost

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec Cert.Look

variable (V0 : Valuation τ sig (Elt Ideal))

abbrev aHv : FVec Ideal S64x1024x32 .f32 := V0 (Proc.devRef .tc main_arg0)
abbrev aTv : FVec Ideal S64x128x8 .f32 := V0 (Proc.devRef .tc main_arg1)
abbrev aTci : IVec S64x8 32 := V0 (Proc.devRef .tc main_arg2)
abbrev aHtf : IVec S64x1024x4 32 := V0 (Proc.devRef .tc main_arg3)
abbrev aTtf : IVec S64x128x4 32 := V0 (Proc.devRef .tc main_arg4)
abbrev aYt : FVec Ideal S11x4 .f32 := V0 (Proc.devRef .tc main_arg5)
abbrev aMt : FVec Ideal S12x4 .f32 := V0 (Proc.devRef .tc main_arg6)
abbrev aDt : FVec Ideal S31x6 .f32 := V0 (Proc.devRef .tc main_arg7)
abbrev aWt : FVec Ideal S7x4 .f32 := V0 (Proc.devRef .tc main_arg8)
abbrev aW : FVec Ideal S18 .f32 := V0 (Proc.devRef .tc main_arg9)
abbrev aB : FVec Ideal S18 .f32 := V0 (Proc.devRef .tc main_arg10)

/-! ## The rows of a table at indices wrapped around -/

theorem up_apply {α : Type} {B S : Nat} (h1 : (⟨2, ![B, S]⟩ : Shape).BroadcastsInDim ⟨3, ![B, S, 1]⟩ ![0, 1]) (u : (⟨2, ![B, S]⟩ : Shape).Idx → α) (b : Fin B) (s : Fin S) (z : Fin 1) :
    broadcastInDim ⟨3, ![B, S, 1]⟩ ![0, 1] h1 u (ix3 b s z) = u (ix2 b s) := by
  unfold broadcastInDim
  refine congrArg u (funext fun a => Fin.ext ?_)
  match a with
  | ⟨0, _⟩ =>
    dsimp only
    split
    · rename_i h
      have := b.isLt
      have e : B = 1 := h
      show 0 = b.val
      omega
    · rfl
  | ⟨1, _⟩ =>
    dsimp only
    split
    · rename_i h
      have := s.isLt
      have e : S = 1 := h
      show 0 = s.val
      omega
    · rfl

theorem row_apply {N M B S : Nat} (wf) (h1) (h2) (h3) (x : FVec Ideal ⟨2, ![N, M]⟩ .f32) (v : IVec ⟨2, ![B, S]⟩ 32) (n : BitVec 32)
    (b : Fin B) (s : Fin S) (e : Fin M) {k : Fin N} (hN : N ≤ 64) (hk : (v (ix2 b s)).toNat = k.val) :
    Host.gather (tableDims N M B S wf) x (broadcastInDim ⟨3, ![B, S, 1]⟩ ![0, 1] h1
      (select (cmpi .slt v (broadcastInDim ⟨2, ![B, S]⟩ ![] h2 (constantI S_ 32 0#32))) (addi v (broadcastInDim ⟨2, ![B, S]⟩ ![] h3 (constantI S_ 32 n))) v))
      (ix3 b s e) = x (ix2 k e) := by
  have hlt := k.isLt
  refine table_apply wf x _ b s e k hN ?_
  rw [← hk]
  rw [up_apply h1]
  exact congrArg BitVec.toNat (wrap_eq (x := v (ix2 b s)) n (by omega))

/-- The four tables side by side, each at its row. -/
theorem embed_eq (yt : FVec Ideal ⟨2, ![11, 4]⟩ .f32) (mt : FVec Ideal ⟨2, ![12, 4]⟩ .f32) (dt : FVec Ideal ⟨2, ![31, 6]⟩ .f32)
    (wt : FVec Ideal ⟨2, ![7, 4]⟩ .f32) (y m d w : Fin 7) (fy fm : Fin 4 → EReal) (fd : Fin 6 → EReal) (fw : Fin 4 → EReal)
    (hy : ∀ e, fy e = yt (ix2 ⟨y.val, by omega⟩ e)) (hm : ∀ e, fm e = mt (ix2 ⟨m.val, by omega⟩ e))
    (hd : ∀ e, fd e = dt (ix2 ⟨d.val, by omega⟩ e)) (hw : ∀ e, fw e = wt (ix2 w e)) (e : Fin 18) :
    (if h : e.val < 4 then fy ⟨e.val, h⟩ else if h1 : e.val - 4 < 4 then fm ⟨e.val - 4, h1⟩
      else if h2 : e.val - 4 - 4 < 6 then fd ⟨e.val - 4 - 4, h2⟩ else fw ⟨e.val - 4 - 4 - 6, by omega⟩) = embed yt mt dt wt y m d w e := by
  unfold embed
  by_cases h0 : e.val < 4
  · rw [dif_pos h0, dif_pos h0, hy]
  rw [dif_neg h0, dif_neg h0]
  by_cases h1 : e.val < 8
  · rw [dif_pos h1, dif_pos (by omega), hm]
  rw [dif_neg h1, dif_neg (show ¬ e.val - 4 < 4 by omega)]
  by_cases h2 : e.val < 14
  · rw [dif_pos h2, dif_pos (by omega), hd]
    exact congrArg dt (at2 rfl (by show e.val - 4 - 4 = e.val - 8; omega))
  rw [dif_neg h2, dif_neg (show ¬ e.val - 4 - 4 < 6 by omega), hw]
  exact congrArg wt (at2 rfl (by show e.val - 4 - 4 - 6 = e.val - 14; omega))

/-! ## The statistics -/

/-- The sort's comparator decides "less". -/
theorem comparator_iff (a b : EReal) : comparator_f32_d1 (F := Ideal) a b = 1#1 ↔ a < b := by
  have hun : ∀ x : EReal, FloatOps.cmpf (F := Ideal) (φ := .f32) .une x x = 0#1 := fun x => by
    show Ideal.cmp .une x x = 0#1
    simp [Ideal.cmp]
  have hz : ∀ x : EReal, Scalar.select (FloatOps.cmpf (F := Ideal) (φ := .f32) .oeq x (FloatOps.ofBits .f32 0x00000000#32)) (FloatOps.ofBits (F := Ideal) .f32 0x00000000#32) x = x := fun x => by
    show Scalar.select (Ideal.cmp .oeq x (Ideal.ofBits .f32 0x00000000#32)) (Ideal.ofBits .f32 0x00000000#32) x = x
    by_cases h : x = Ideal.ofBits .f32 0x00000000#32
    · unfold Scalar.select; split
      · exact h.symm
      · rfl
    · have e : Ideal.cmp .oeq x (Ideal.ofBits .f32 0x00000000#32) = 0#1 := by
        show BitVec.ofBool (decide (x = _)) = 0#1
        rw [decide_eq_false h]; rfl
      rw [e]; rfl
  unfold comparator_f32_d1
  dsimp only
  rw [hun, hun, hz, hz]
  show BitVec.ofBool (decide (a < b)) = 1#1 ↔ a < b
  by_cases h : a < b
  · rw [decide_eq_true h]; exact ⟨fun _ => h, fun _ => rfl⟩
  · rw [decide_eq_false h]; exact ⟨fun e => absurd e (by decide), fun e => absurd e h⟩

theorem sorted_apply (b : Fin 64) (i : Fin 1024) (c : Fin 32) :
    res_main_v3 V0 (ix3 b i c) = ascending (fun k => aHv V0 (ix3 b k c)) i :=
  sort_apply _ comparator_iff (aHv V0) b i c

/-- Half of a sum is the sum of the halves. -/
theorem half_add (x y : EReal) : x * Ideal.ofBits .f32 0x3F000000#32 + y * Ideal.ofBits .f32 0x3F000000#32
    = Ideal.ofBits .f32 0x3F000000#32 * (x + y) := by
  have h : ∃ r : ℝ, 0 ≤ r ∧ Ideal.ofBits .f32 0x3F000000#32 = (r : EReal) := by
    refine ⟨1 / 2, by norm_num, ?_⟩
    simp [Ideal.ofBits, Ideal.ieee, -EReal.coe_mul]
    norm_num
  obtain ⟨r, h0, h⟩ := h
  rw [h, EReal.left_distrib_of_nonneg_of_ne_top (by exact_mod_cast h0) (EReal.coe_ne_top r), mul_comm x, mul_comm y]

theorem med_apply (b : Fin 64) (z : Fin 1) (c : Fin 32) : res_main_v10 V0 (ix3 b z c) = med (aHv V0) b c := by
  unfold res_main_v10 med medOf
  pointwise
  rw [sorted_apply, sorted_apply]
  exact half_add _ _

theorem iqr_apply (b : Fin 64) (z : Fin 1) (c : Fin 32) : res_main_v27 V0 (ix3 b z c) = iqr (aHv V0) b c := by
  unfold res_main_v27 iqr iqrOf
  pointwise
  rw [sorted_apply, sorted_apply, sorted_apply, sorted_apply, mul_comm, mul_comm _ (Ideal.ofBits .f32 0x3E800000#32),
    mul_comm _ (Ideal.ofBits .f32 0x3E800000#32), mul_comm _ (Ideal.ofBits .f32 0x3F400000#32)]

/-! ## The indices -/

theorem dy_apply (b : Fin 64) (s : Fin 1024) : res_main_v46 V0 (ix2 b s)
    = IntOp.minsi 10#32 (IntOp.maxsi 0#32 (IntOp.subi (aHtf V0 (ix3 b 1023 0)) (aHtf V0 (ix3 b s 0)))) := by
  unfold res_main_v46 res_main_v2
  pointwise
  rfl

theorem dy_apply' (b : Fin 64) (s : Fin 128) : res_main_v86 V0 (ix2 b s)
    = IntOp.minsi 10#32 (IntOp.maxsi 0#32 (IntOp.subi (aHtf V0 (ix3 b 1023 0)) (aTtf V0 (ix3 b s 0)))) := by
  unfold res_main_v86 res_main_v2
  pointwise
  rfl

theorem v55_apply (b : Fin 64) (s : Fin 1024) : res_main_v55 V0 (ix2 b s) = aHtf V0 (ix3 b s 1) := by
  unfold res_main_v55
  pointwise

theorem v64_apply (b : Fin 64) (s : Fin 1024) : res_main_v64 V0 (ix2 b s) = aHtf V0 (ix3 b s 2) := by
  unfold res_main_v64
  pointwise

theorem v73_apply (b : Fin 64) (s : Fin 1024) : res_main_v73 V0 (ix2 b s) = aHtf V0 (ix3 b s 3) := by
  unfold res_main_v73
  pointwise

theorem v95_apply (b : Fin 64) (s : Fin 128) : res_main_v95 V0 (ix2 b s) = aTtf V0 (ix3 b s 1) := by
  unfold res_main_v95
  pointwise

theorem v104_apply (b : Fin 64) (s : Fin 128) : res_main_v104 V0 (ix2 b s) = aTtf V0 (ix3 b s 2) := by
  unfold res_main_v104
  pointwise

theorem v113_apply (b : Fin 64) (s : Fin 128) : res_main_v113 V0 (ix2 b s) = aTtf V0 (ix3 b s 3) := by
  unfold res_main_v113
  pointwise

/-- Result 1 of the reference. -/
def res1 (V0 : Valuation τ sig (Elt Ideal)) : FVec Ideal S64x1024x576 .f32 :=
  shapeCast _ (addf (addf (mulf (broadcastInDim S64x1024x32x18 ![0, 1, 2, 3] bcast_S64x1024x32x1_S64x1024x32x18_0_1_2_3 (broadcastInDim S64x1024x32x1 ![0, 1, 2] bcast_S64x1024x32_S64x1024x32x1_0_1_2 (Host.divf (subf (V0 (Proc.devRef .tc main_arg0)) (broadcastInDim S64x1024x32 ![0, 1, 2] bcast_S64x1x32_S64x1024x32_0_1_2 (res_main_v10 V0))) (broadcastInDim S64x1024x32 ![0, 1, 2] bcast_S64x1x32_S64x1024x32_0_1_2 (res_main_v27 V0))))) (broadcastInDim S64x1024x32x18 ![0, 1, 2, 3] bcast_S1x1x1x18_S64x1024x32x18_0_1_2_3 (broadcastInDim S1x1x1x18 ![3] bcast_S18_S1x1x1x18_3 (V0 (Proc.devRef .tc main_arg9))))) (broadcastInDim S64x1024x32x18 ![0, 1, 2, 3] bcast_S1x1x1x18_S64x1024x32x18_0_1_2_3 (broadcastInDim S1x1x1x18 ![3] bcast_S18_S1x1x1x18_3 (V0 (Proc.devRef .tc main_arg10))))) (broadcastInDim S64x1024x32x18 ![0, 1, 2, 3] bcast_S64x1024x1x18_S64x1024x32x18_0_1_2_3 (broadcastInDim S64x1024x1x18 ![0, 1, 3] bcast_S64x1024x18_S64x1024x1x18_0_1_3 ((concatenate S64x1024x18 2 [⟨S64x1024x4, ((Host.gather gather_S11x4_S64x1024x1_S64x1024x4_2_0_n_n_0_2_14 (V0 (Proc.devRef .tc main_arg5)) (broadcastInDim S64x1024x1 ![0, 1] bcast_S64x1024_S64x1024x1_0_1 (select (cmpi .slt (res_main_v46 V0) (broadcastInDim S64x1024 ![] bcast_S_S64x1024 (constantI S_ 32 0#32))) (addi (res_main_v46 V0) (broadcastInDim S64x1024 ![] bcast_S_S64x1024 (constantI S_ 32 11#32))) (res_main_v46 V0)))) : (⟨S64x1024x4, .f32⟩ : BufTy).Contents (Elt Ideal))⟩, ⟨S64x1024x4, ((Host.gather gather_S12x4_S64x1024x1_S64x1024x4_2_0_n_n_0_2_14 (V0 (Proc.devRef .tc main_arg6)) (broadcastInDim S64x1024x1 ![0, 1] bcast_S64x1024_S64x1024x1_0_1 (select (cmpi .slt (res_main_v55 V0) (broadcastInDim S64x1024 ![] bcast_S_S64x1024 (constantI S_ 32 0#32))) (addi (res_main_v55 V0) (broadcastInDim S64x1024 ![] bcast_S_S64x1024 (constantI S_ 32 12#32))) (res_main_v55 V0)))) : (⟨S64x1024x4, .f32⟩ : BufTy).Contents (Elt Ideal))⟩, ⟨S64x1024x6, ((Host.gather gather_S31x6_S64x1024x1_S64x1024x6_2_0_n_n_0_2_16 (V0 (Proc.devRef .tc main_arg7)) (broadcastInDim S64x1024x1 ![0, 1] bcast_S64x1024_S64x1024x1_0_1 (select (cmpi .slt (res_main_v64 V0) (broadcastInDim S64x1024 ![] bcast_S_S64x1024 (constantI S_ 32 0#32))) (addi (res_main_v64 V0) (broadcastInDim S64x1024 ![] bcast_S_S64x1024 (constantI S_ 32 31#32))) (res_main_v64 V0)))) : (⟨S64x1024x6, .f32⟩ : BufTy).Contents (Elt Ideal))⟩, ⟨S64x1024x4, ((Host.gather gather_S7x4_S64x1024x1_S64x1024x4_2_0_n_n_0_2_14 (V0 (Proc.devRef .tc main_arg8)) (broadcastInDim S64x1024x1 ![0, 1] bcast_S64x1024_S64x1024x1_0_1 (select (cmpi .slt (res_main_v73 V0) (broadcastInDim S64x1024 ![] bcast_S_S64x1024 (constantI S_ 32 0#32))) (addi (res_main_v73 V0) (broadcastInDim S64x1024 ![] bcast_S_S64x1024 (constantI S_ 32 7#32))) (res_main_v73 V0)))) : (⟨S64x1024x4, .f32⟩ : BufTy).Contents (Elt Ideal))⟩] concatenates_S64x1024x4_S64x1024x4_S64x1024x6_S64x1024x4_S64x1024x18_d2 : (⟨S64x1024x18, .f32⟩ : BufTy).Contents (Elt Ideal)))))) shapeCasts_S64x1024x32x18_S64x1024x576

/-- Result 2 of the reference. -/
def res2 (V0 : Valuation τ sig (Elt Ideal)) : FVec Ideal S64x128x32x18 .f32 :=
  broadcastInDim S64x128x32x18 ![0, 1, 2, 3] bcast_S64x128x1x18_S64x128x32x18_0_1_2_3 (broadcastInDim S64x128x1x18 ![0, 1, 3] bcast_S64x128x18_S64x128x1x18_0_1_3 ((concatenate S64x128x18 2 [⟨S64x128x4, ((Host.gather gather_S11x4_S64x128x1_S64x128x4_2_0_n_n_0_2_14 (V0 (Proc.devRef .tc main_arg5)) (broadcastInDim S64x128x1 ![0, 1] bcast_S64x128_S64x128x1_0_1 (select (cmpi .slt (res_main_v86 V0) (broadcastInDim S64x128 ![] bcast_S_S64x128 (constantI S_ 32 0#32))) (addi (res_main_v86 V0) (broadcastInDim S64x128 ![] bcast_S_S64x128 (constantI S_ 32 11#32))) (res_main_v86 V0)))) : (⟨S64x128x4, .f32⟩ : BufTy).Contents (Elt Ideal))⟩, ⟨S64x128x4, ((Host.gather gather_S12x4_S64x128x1_S64x128x4_2_0_n_n_0_2_14 (V0 (Proc.devRef .tc main_arg6)) (broadcastInDim S64x128x1 ![0, 1] bcast_S64x128_S64x128x1_0_1 (select (cmpi .slt (res_main_v95 V0) (broadcastInDim S64x128 ![] bcast_S_S64x128 (constantI S_ 32 0#32))) (addi (res_main_v95 V0) (broadcastInDim S64x128 ![] bcast_S_S64x128 (constantI S_ 32 12#32))) (res_main_v95 V0)))) : (⟨S64x128x4, .f32⟩ : BufTy).Contents (Elt Ideal))⟩, ⟨S64x128x6, ((Host.gather gather_S31x6_S64x128x1_S64x128x6_2_0_n_n_0_2_16 (V0 (Proc.devRef .tc main_arg7)) (broadcastInDim S64x128x1 ![0, 1] bcast_S64x128_S64x128x1_0_1 (select (cmpi .slt (res_main_v104 V0) (broadcastInDim S64x128 ![] bcast_S_S64x128 (constantI S_ 32 0#32))) (addi (res_main_v104 V0) (broadcastInDim S64x128 ![] bcast_S_S64x128 (constantI S_ 32 31#32))) (res_main_v104 V0)))) : (⟨S64x128x6, .f32⟩ : BufTy).Contents (Elt Ideal))⟩, ⟨S64x128x4, ((Host.gather gather_S7x4_S64x128x1_S64x128x4_2_0_n_n_0_2_14 (V0 (Proc.devRef .tc main_arg8)) (broadcastInDim S64x128x1 ![0, 1] bcast_S64x128_S64x128x1_0_1 (select (cmpi .slt (res_main_v113 V0) (broadcastInDim S64x128 ![] bcast_S_S64x128 (constantI S_ 32 0#32))) (addi (res_main_v113 V0) (broadcastInDim S64x128 ![] bcast_S_S64x128 (constantI S_ 32 7#32))) (res_main_v113 V0)))) : (⟨S64x128x4, .f32⟩ : BufTy).Contents (Elt Ideal))⟩] concatenates_S64x128x4_S64x128x4_S64x128x6_S64x128x4_S64x128x18_d2 : (⟨S64x128x18, .f32⟩ : BufTy).Contents (Elt Ideal))))

/-- Result 3 of the reference. -/
def res3 (V0 : Valuation τ sig (Elt Ideal)) : FVec Ideal S64x128x8 .f32 :=
  Host.divf (subf (V0 (Proc.devRef .tc main_arg1)) (broadcastInDim S64x128x8 ![0, 1, 2] bcast_S64x1x8_S64x128x8_0_1_2 (broadcastInDim S64x1x8 ![0, 2] bcast_S64x8_S64x1x8_0_2 (select (Host.reduce IntOp.andi (andi (cmpi .sge (res_main_call1_v5 V0) (broadcastInDim S64x8x1 ![] bcast_S_S64x8x1 (constantI S_ 32 0#32))) (cmpi .sle (res_main_call1_v5 V0) (broadcastInDim S64x8x1 ![0, 1, 2] bcast_S1x1x1_S64x8x1_0_1_2 (broadcastInDim S1x1x1 ![2] bcast_S1_S1x1x1_2 (constantI S1 32 31#32))))) (constantI S_ 1 1#1) reducesTo_S64x8x1_S64x8_d2 h_S_) (Host.gather gather_S64x32_S64x8x1_S64x8_n_1_0_0_1_2_11 (shapeCast _ (res_main_v10 V0) shapeCasts_S64x1x32_S64x32) (res_main_call1_v5 V0)) (broadcastInDim S64x8 ![] bcast_S_S64x8 (constant S_ .f32 0x7FC00000#32)))))) (broadcastInDim S64x128x8 ![0, 1, 2] bcast_S64x1x8_S64x128x8_0_1_2 (broadcastInDim S64x1x8 ![0, 2] bcast_S64x8_S64x1x8_0_2 (select (Host.reduce IntOp.andi (andi (cmpi .sge (res_main_call2_v5 V0) (broadcastInDim S64x8x1 ![] bcast_S_S64x8x1 (constantI S_ 32 0#32))) (cmpi .sle (res_main_call2_v5 V0) (broadcastInDim S64x8x1 ![0, 1, 2] bcast_S1x1x1_S64x8x1_0_1_2 (broadcastInDim S1x1x1 ![2] bcast_S1_S1x1x1_2 (constantI S1 32 31#32))))) (constantI S_ 1 1#1) reducesTo_S64x8x1_S64x8_d2 h_S_) (Host.gather gather_S64x32_S64x8x1_S64x8_n_1_0_0_1_2_11 (shapeCast _ (res_main_v27 V0) shapeCasts_S64x1x32_S64x32) (res_main_call2_v5 V0)) (broadcastInDim S64x8 ![] bcast_S_S64x8 (constant S_ .f32 0x7FC00000#32)))))

variable (h : InRange (aTci V0) (aHtf V0) (aTtf V0))
include h

/-! ## The third result -/

theorem call1_apply (b : Fin 64) (t : Fin 8) (z : Fin 1) : res_main_call1_v5 V0 (ix3 b t z) = aTci V0 (ix2 b t) := by
  unfold res_main_call1_v5
  pointwise
  exact wrap_eq _ (lt_trans (h.tci b t) (by decide))

theorem call2_apply (b : Fin 64) (t : Fin 8) (z : Fin 1) : res_main_call2_v5 V0 (ix3 b t z) = aTci V0 (ix2 b t) := by
  unfold res_main_call2_v5
  pointwise
  exact wrap_eq _ (lt_trans (h.tci b t) (by decide))

theorem mask1 (j : S64x8.Idx) : Host.reduce IntOp.andi (andi (cmpi .sge (res_main_call1_v5 V0) (broadcastInDim S64x8x1 ![] bcast_S_S64x8x1 (constantI S_ 32 0#32))) (cmpi .sle (res_main_call1_v5 V0) (broadcastInDim S64x8x1 ![0, 1, 2] bcast_S1x1x1_S64x8x1_0_1_2 (broadcastInDim S1x1x1 ![2] bcast_S1_S1x1x1_2 (constantI S1 32 31#32))))) (constantI S_ 1 1#1) reducesTo_S64x8x1_S64x8_d2 h_S_ j = 1#1 := by
  refine Host.reduce_andi_one _ _ _ _ j rfl fun i => ?_
  idx_vars i
  pointwise
  rw [call1_apply V0 h]
  exact channel_ok (h.tci _ _)

theorem mask2 (j : S64x8.Idx) : Host.reduce IntOp.andi (andi (cmpi .sge (res_main_call2_v5 V0) (broadcastInDim S64x8x1 ![] bcast_S_S64x8x1 (constantI S_ 32 0#32))) (cmpi .sle (res_main_call2_v5 V0) (broadcastInDim S64x8x1 ![0, 1, 2] bcast_S1x1x1_S64x8x1_0_1_2 (broadcastInDim S1x1x1 ![2] bcast_S1_S1x1x1_2 (constantI S1 32 31#32))))) (constantI S_ 1 1#1) reducesTo_S64x8x1_S64x8_d2 h_S_ j = 1#1 := by
  refine Host.reduce_andi_one _ _ _ _ j rfl fun i => ?_
  idx_vars i
  pointwise
  rw [call2_apply V0 h]
  exact channel_ok (h.tci _ _)

theorem pick1 (b : Fin 64) (t : Fin 8) : Host.gather gather_S64x32_S64x8x1_S64x8_n_1_0_0_1_2_11
    (shapeCast S64x32 (res_main_v10 V0) shapeCasts_S64x1x32_S64x32) (res_main_call1_v5 V0) (ix2 b t) = med (aHv V0) b (chan (aTci V0 (ix2 b t))) := by
  refine (pick_apply _ _ _ b t (chan (aTci V0 (ix2 b t))) (by decide) ?_).trans ?_
  · rw [call1_apply V0 h, chan_val (h.tci b t)]
  · pointwise
    exact med_apply V0 b 0 _

theorem pick2 (b : Fin 64) (t : Fin 8) : Host.gather gather_S64x32_S64x8x1_S64x8_n_1_0_0_1_2_11
    (shapeCast S64x32 (res_main_v27 V0) shapeCasts_S64x1x32_S64x32) (res_main_call2_v5 V0) (ix2 b t) = iqr (aHv V0) b (chan (aTci V0 (ix2 b t))) := by
  refine (pick_apply _ _ _ b t (chan (aTci V0 (ix2 b t))) (by decide) ?_).trans ?_
  · rw [call2_apply V0 h, chan_val (h.tci b t)]
  · pointwise
    exact iqr_apply V0 b 0 _

theorem res3_apply (b : Fin 64) (p : Fin 128) (t : Fin 8) : res3 V0 (ix3 b p t) = out3 (aHv V0) (aTv V0) (aTci V0) b p t := by
  unfold res3 out3
  rw [show Host.reduce IntOp.andi _ _ reducesTo_S64x8x1_S64x8_d2 h_S_ = fun _ => 1#1 from funext (mask1 V0 h),
    show Host.reduce IntOp.andi _ _ reducesTo_S64x8x1_S64x8_d2 h_S_ = fun _ => 1#1 from funext (mask2 V0 h)]
  pointwise
  rw [pick1 V0 h, pick2 V0 h]

/-! ## The time embeddings -/

theorem res2_apply (b : Fin 64) (p : Fin 128) (c : Fin 32) (e : Fin 18) : res2 V0 (ix4 b p c e)
    = out2 (aHtf V0) (aTtf V0) (aYt V0) (aMt V0) (aDt V0) (aWt V0) b p e := by
  unfold res2 out2
  pointwise
  refine embed_eq (aYt V0) (aMt V0) (aDt V0) (aWt V0) _ _ _ _ (fun e => Host.gather _ _ _ (ix3 b p e)) (fun e => Host.gather _ _ _ (ix3 b p e))
    (fun e => Host.gather _ _ _ (ix3 b p e)) (fun e => Host.gather _ _ _ (ix3 b p e)) (fun e => ?_) (fun e => ?_) (fun e => ?_) (fun e => ?_) e
  · exact row_apply _ _ _ _ _ _ _ _ _ _ (by decide) (by rw [dy_apply', years_clip (h.htf _ _ _) (h.ttf _ _ _)])
  · exact row_apply _ _ _ _ _ _ _ _ _ _ (by decide) (by rw [v95_apply, slot_val (h.ttf _ _ _)])
  · exact row_apply _ _ _ _ _ _ _ _ _ _ (by decide) (by rw [v104_apply, slot_val (h.ttf _ _ _)])
  · exact row_apply _ _ _ _ _ _ _ _ _ _ (by decide) (by rw [v113_apply, slot_val (h.ttf _ _ _)])

theorem res1_apply (b : Fin 64) (s : Fin 1024) (k : Fin 576) : res1 V0 (ix3 b s k)
    = out1 (aHv V0) (aHtf V0) (aYt V0) (aMt V0) (aDt V0) (aWt V0) (aW V0) (aB V0) b s ⟨k.val / 18, by omega⟩ ⟨k.val % 18, by omega⟩ := by
  unfold res1 out1
  pointwise
  rw [med_apply, iqr_apply]
  refine congrArg (HAdd.hAdd _) ?_
  refine embed_eq (aYt V0) (aMt V0) (aDt V0) (aWt V0) _ _ _ _ (fun e => Host.gather _ _ _ (ix3 b s e)) (fun e => Host.gather _ _ _ (ix3 b s e))
    (fun e => Host.gather _ _ _ (ix3 b s e)) (fun e => Host.gather _ _ _ (ix3 b s e)) (fun e => ?_) (fun e => ?_) (fun e => ?_) (fun e => ?_)
    ⟨k.val % 18, by omega⟩
  · exact row_apply _ _ _ _ _ _ _ _ _ _ (by decide) (by rw [dy_apply, years_clip (h.htf _ _ _) (h.htf _ _ _)])
  · exact row_apply _ _ _ _ _ _ _ _ _ _ (by decide) (by rw [v55_apply, slot_val (h.htf _ _ _)])
  · exact row_apply _ _ _ _ _ _ _ _ _ _ (by decide) (by rw [v64_apply, slot_val (h.htf _ _ _)])
  · exact row_apply _ _ _ _ _ _ _ _ _ _ (by decide) (by rw [v73_apply, slot_val (h.htf _ _ _)])

end Cert.ReferenceIdeal.Value

end
-- ==== Proof.ReferenceIdeal.Values.lean ====
/-
  The reference's three results, of arguments given by name.
-/
module

public import proofs.«01_k».proof.Proof.ReferenceIdeal.Results
public import proofs.«01_k».proof.Proof.Shared.Answers

@[expose] public section

set_option maxRecDepth 16384

noncomputable section

open Idealize.ShloMosaic

namespace Cert.ReferenceIdeal.Value

open Cert.ReferenceIdeal Cert.ReferenceIdeal.Gen Cert.Spec

variable (A : Valuation τ sig (Elt Ideal)) (hv : FVec Ideal S64x1024x32 .f32) (tv : FVec Ideal S64x128x8 .f32) (tci : IVec S64x8 32)
  (htf : IVec S64x1024x4 32) (ttf : IVec S64x128x4 32) (yt : FVec Ideal S11x4 .f32) (mt : FVec Ideal S12x4 .f32) (dt : FVec Ideal S31x6 .f32)
  (wt : FVec Ideal S7x4 .f32) (w b : FVec Ideal S18 .f32)

/-- The arguments a valuation holds. -/
structure Holds : Prop where
  hv : aHv A = hv
  tv : aTv A = tv
  tci : aTci A = tci
  htf : aHtf A = htf
  ttf : aTtf A = ttf
  yt : aYt A = yt
  mt : aMt A = mt
  dt : aDt A = dt
  wt : aWt A = wt
  w : aW A = w
  b : aB A = b

variable (e : Holds A hv tv tci htf ttf yt mt dt wt w b) (h : InRange tci htf ttf)
include e h

theorem value1 : res1 A = answer1 hv htf yt mt dt wt w b := by
  obtain ⟨rfl, rfl, rfl, rfl, rfl, rfl, rfl, rfl, rfl, rfl, rfl⟩ := e
  funext i
  idx_vars i
  exact res1_apply A h i0 i1 i2

theorem value2 : res2 A = answer2 htf ttf yt mt dt wt := by
  obtain ⟨rfl, rfl, rfl, rfl, rfl, rfl, rfl, rfl, rfl, rfl, rfl⟩ := e
  funext i
  idx_vars i
  exact res2_apply A h i0 i1 i2 i3

theorem value3 : res3 A = answer3 hv tv tci := by
  obtain ⟨rfl, rfl, rfl, rfl, rfl, rfl, rfl, rfl, rfl, rfl, rfl⟩ := e
  funext i
  idx_vars i
  exact res3_apply A h i0 i1 i2

end Cert.ReferenceIdeal.Value

end
-- ==== Proof.Pre.InRange.lean ====
/-
  The precondition, read: every channel number lies below 32 and every time feature below 7.
-/
module

public import proofs.«01_k».proof.Defs
public import proofs.«01_k».proof.Proof.Shared.Range
public import Idealize.ShloMosaic.Lib.Affine
public import Idealize.ShloMosaic.Lib.Decide
public import Idealize.ShloMosaic.Lib.ReduceAll
public import Idealize.ShloMosaic.Lib.Pointwise

@[expose] public section

noncomputable section

namespace Cert.Pre_in_range

open Idealize.ShloMosaic Cert.Spec

theorem held : Facts where
  bcast_S_S64x8 := by decide
  reducesTo_S64x8_S_d0_1 := by decide
  h_S_ := by decide
  bcast_S_S64x1024x4 := by decide
  reducesTo_S64x1024x4_S_d0_1_2 := by decide
  bcast_S_S64x128x4 := by decide
  reducesTo_S64x128x4_S_d0_1_2 := by decide

/-- A word at least 0 and below a small bound, as signed numbers, is below it as a number. -/
theorem bounds {x : BitVec 32} (n : ℕ) (hn : n < 64)
    (h : IntOp.andi (IntOp.cmpi .sge x 0#32) (IntOp.cmpi .slt x (BitVec.ofNat 32 n)) = 1#1) : x.toNat < n := by
  obtain ⟨h0, h1⟩ := IntOp.andi_eq_one.mp h
  rw [IntOp.cmpi_sge] at h0
  rw [IntOp.cmpi_slt] at h1
  have e : (BitVec.ofNat 32 n).toInt = n := by
    rw [BitVec.toInt_eq_toNat_of_lt] <;> rw [BitVec.toNat_ofNat] <;> omega
  rw [e] at h1
  have z : (0#32 : BitVec 32).toInt = 0 := by decide
  rw [z] at h0
  rw [BitVec.toInt_eq_toNat_cond] at h0 h1
  split at h0 <;> omega

variable [Facts]
open Facts

theorem inRange (a0 : FVec Ideal S64x1024x32 .f32) (a1 : FVec Ideal S64x128x8 .f32) (a2 : IVec S64x8 32) (a3 : IVec S64x1024x4 32)
    (a4 : IVec S64x128x4 32) (a5 : FVec Ideal S11x4 .f32) (a6 : FVec Ideal S12x4 .f32) (a7 : FVec Ideal S31x6 .f32) (a8 : FVec Ideal S7x4 .f32)
    (a9 : FVec Ideal S18 .f32) (a10 : FVec Ideal S18 .f32)
    (h : fn (F := Ideal) a0 a1 a2 a3 a4 a5 a6 a7 a8 a9 a10 = fun _ => 1#1) : InRange a2 a3 a4 := by
  have h := congrFun h ix0
  dsimp only [fn, fn_part1] at h
  obtain ⟨h01, h4⟩ := IntOp.andi_eq_one.mp h
  obtain ⟨h2, h3⟩ := IntOp.andi_eq_one.mp h01
  haveI : Subsingleton S_.Idx := ⟨fun a b => funext fun d => d.elim0⟩
  exact {
    tci := fun b t => bounds 32 (by omega) (Host.reduce_andi_all _ _ _ _ _ h2 (ix2 b t))
    htf := fun b s k => bounds 7 (by omega) (Host.reduce_andi_all _ _ _ _ _ h3 (ix3 b s k))
    ttf := fun b p k => bounds 7 (by omega) (Host.reduce_andi_all _ _ _ _ _ h4 (ix3 b p k)) }

end Cert.Pre_in_range

end
-- ==== Proof.lean ====
/-
  The certificate of this kernel: every claim, from the run of each program.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Values
public import proofs.«01_k».proof.Proof.ReferenceIdeal.Values
public import proofs.«01_k».proof.Proof.Pre.InRange
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments, and has no semaphores. -/
theorem ref_frame [Cert.ReferenceIdeal.Facts] : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- On arguments in range the kernel and the reference leave the same three results. -/
theorem same [Cert.Pre_in_range.Facts] : Cert.algebraic_KernelIdeal_ReferenceIdeal_pre_in_range := by
  intro m g m' g' hpre hagree
  have hr := fun c => Cert.Pre_in_range.inRange _ _ _ _ _ _ _ _ _ _ _ (hpre c)
  have hold := fun c : Dev Cert.KernelIdeal.nD => (show Cert.ReferenceIdeal.Value.Holds (StableHlo.launchContents m' c) _ _ _ _ _ _ _ _ _ _ _ from {
    hv := (hagree c).1
    tv := (hagree c).2.1
    tci := (hagree c).2.2.1
    htf := (hagree c).2.2.2.1
    ttf := (hagree c).2.2.2.2.1
    yt := (hagree c).2.2.2.2.2.1
    mt := (hagree c).2.2.2.2.2.2.1
    dt := (hagree c).2.2.2.2.2.2.2.1
    wt := (hagree c).2.2.2.2.2.2.2.2.1
    w := (hagree c).2.2.2.2.2.2.2.2.2.1
    b := (hagree c).2.2.2.2.2.2.2.2.2.2 })
  refine ⟨fun c => Cert.KernelIdeal.Gen.W4 m g c (Proc.devRef .tc Cert.KernelIdeal.main_v0_0),
    fun c => Cert.KernelIdeal.Gen.W4 m g c (Proc.devRef .tc Cert.KernelIdeal.main_v0_1),
    fun c => Cert.KernelIdeal.Gen.W4 m g c (Proc.devRef .tc Cert.KernelIdeal.main_v0_2), ?_, ?_⟩
  · exact (θ_run _ _ _).mono (fun r h c =>
    ⟨h.1 c _ (Cert.KernelIdeal.Gen.mem_uc Cert.KernelIdeal.main_v0_0 (by decide)),
     h.1 c _ (Cert.KernelIdeal.Gen.mem_uc Cert.KernelIdeal.main_v0_1 (by decide)),
     h.1 c _ (Cert.KernelIdeal.Gen.mem_uc Cert.KernelIdeal.main_v0_2 (by decide)),
     (h.1 c _ (Cert.KernelIdeal.Gen.mem_uc Cert.KernelIdeal.main_arg0 (by decide))).trans (Cert.KernelIdeal.Gen.W4_args m g c Cert.KernelIdeal.main_arg0 (by decide)),
     (h.1 c _ (Cert.KernelIdeal.Gen.mem_uc Cert.KernelIdeal.main_arg1 (by decide))).trans (Cert.KernelIdeal.Gen.W4_args m g c Cert.KernelIdeal.main_arg1 (by decide)),
     (h.1 c _ (Cert.KernelIdeal.Gen.mem_uc Cert.KernelIdeal.main_arg2 (by decide))).trans (Cert.KernelIdeal.Gen.W4_args m g c Cert.KernelIdeal.main_arg2 (by decide)),
     (h.1 c _ (Cert.KernelIdeal.Gen.mem_uc Cert.KernelIdeal.main_arg3 (by decide))).trans (Cert.KernelIdeal.Gen.W4_args m g c Cert.KernelIdeal.main_arg3 (by decide)),
     (h.1 c _ (Cert.KernelIdeal.Gen.mem_uc Cert.KernelIdeal.main_arg4 (by decide))).trans (Cert.KernelIdeal.Gen.W4_args m g c Cert.KernelIdeal.main_arg4 (by decide)),
     (h.1 c _ (Cert.KernelIdeal.Gen.mem_uc Cert.KernelIdeal.main_arg5 (by decide))).trans (Cert.KernelIdeal.Gen.W4_args m g c Cert.KernelIdeal.main_arg5 (by decide)),
     (h.1 c _ (Cert.KernelIdeal.Gen.mem_uc Cert.KernelIdeal.main_arg6 (by decide))).trans (Cert.KernelIdeal.Gen.W4_args m g c Cert.KernelIdeal.main_arg6 (by decide)),
     (h.1 c _ (Cert.KernelIdeal.Gen.mem_uc Cert.KernelIdeal.main_arg7 (by decide))).trans (Cert.KernelIdeal.Gen.W4_args m g c Cert.KernelIdeal.main_arg7 (by decide)),
     (h.1 c _ (Cert.KernelIdeal.Gen.mem_uc Cert.KernelIdeal.main_arg8 (by decide))).trans (Cert.KernelIdeal.Gen.W4_args m g c Cert.KernelIdeal.main_arg8 (by decide)),
     (h.1 c _ (Cert.KernelIdeal.Gen.mem_uc Cert.KernelIdeal.main_arg9 (by decide))).trans (Cert.KernelIdeal.Gen.W4_args m g c Cert.KernelIdeal.main_arg9 (by decide)),
     (h.1 c _ (Cert.KernelIdeal.Gen.mem_uc Cert.KernelIdeal.main_arg10 (by decide))).trans (Cert.KernelIdeal.Gen.W4_args m g c Cert.KernelIdeal.main_arg10 (by decide))⟩) (Cert.KernelIdeal.Gen.run m g)
  · exact (θ_run _ _ _).mono (fun r h c =>
      ⟨(h c).1.trans ((Cert.ReferenceIdeal.Value.value1 _ _ _ _ _ _ _ _ _ _ _ _ (hold c) (hr c)).trans (Cert.KernelIdeal.Value.value1 m g c (hr c)).symm),
       (h c).2.1.trans ((Cert.ReferenceIdeal.Value.value2 _ _ _ _ _ _ _ _ _ _ _ _ (hold c) (hr c)).trans (Cert.KernelIdeal.Value.value2 m g c (hr c)).symm),
       (h c).2.2.1.trans ((Cert.ReferenceIdeal.Value.value3 _ _ _ _ _ _ _ _ _ _ _ _ (hold c) (hr c)).trans (Cert.KernelIdeal.Value.value3 m g c (hr c)).symm),
       (h c).2.2.2⟩) (Cert.ReferenceIdeal.Value.run (F := Ideal) m' g')

theorem claim : Cert.Claim := ⟨Cert.Kernel.Gen.facts, Cert.KernelIdeal.Gen.facts, Cert.ReferenceIdeal.Gen.facts, Cert.Pre_in_range.held,
  fun m g _ => Cert.Kernel.Gen.frame m g, fun m g _ => Cert.KernelIdeal.Gen.frame m g, fun m g _ => Cert.KernelIdeal.Gen.frame m g,
  ref_frame, fun m g _ => ref_frame m g trivial, trivial, @same Cert.Pre_in_range.held⟩

end Cert.Proof

end
